-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_neighbours_distinct [hPre_neighbours_distinct : Cert.Pre_neighbours_distinct.Facts] (m : (ℓ : Loc Cert.KernelIdeal.nD Cert.KernelIdeal.τ Cert.KernelIdeal.sig) → Buf (Elt Ideal) ℓ) : Prop :=
  ∀ c : Dev Cert.KernelIdeal.nD,
    (Cert.Pre_neighbours_distinct.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_neighbours_distinct [hPre_neighbours_distinct : Cert.Pre_neighbours_distinct.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_neighbours_distinct.fn (F := Ideal) (m ((c.tc : Thread Cert.ReferenceIdeal.nD Cert.ReferenceIdeal.τ).loc Cert.ReferenceIdeal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_neighbours_distinct [hKernelIdeal : Cert.KernelIdeal.Facts] [hPre_neighbours_distinct : Cert.Pre_neighbours_distinct.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_neighbours_distinct m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_neighbours_distinct [hReferenceIdeal : Cert.ReferenceIdeal.Facts] [hPre_neighbours_distinct : Cert.Pre_neighbours_distinct.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_neighbours_distinct m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal_pre_neighbours_distinct [hKernelIdeal : Cert.KernelIdeal.Facts] [hReferenceIdeal : Cert.ReferenceIdeal.Facts] [hPre_neighbours_distinct : Cert.Pre_neighbours_distinct.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_neighbours_distinct m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_neighbours_distinct : Cert.Pre_neighbours_distinct.Facts),
    quiescent_Kernel (hKernel := hKernel)
    ∧ quiescent_KernelIdeal (hKernelIdeal := hKernelIdeal)
    ∧ quiescent_KernelIdeal_pre_neighbours_distinct (hKernelIdeal := hKernelIdeal) (hPre_neighbours_distinct := hPre_neighbours_distinct)
    ∧ quiescent_ReferenceIdeal (hReferenceIdeal := hReferenceIdeal)
    ∧ quiescent_ReferenceIdeal_pre_neighbours_distinct (hReferenceIdeal := hReferenceIdeal) (hPre_neighbours_distinct := hPre_neighbours_distinct)
    ∧ preserves_Kernel_KernelIdeal
    ∧ algebraic_KernelIdeal_ReferenceIdeal_pre_neighbours_distinct (hKernelIdeal := hKernelIdeal) (hReferenceIdeal := hReferenceIdeal) (hPre_neighbours_distinct := hPre_neighbours_distinct)
-- ==== Pre_neighbours_distinct.lean ====
abbrev S16384x32 : Shape := ⟨2, ![16384, 32]⟩
abbrev S32x16384 : Shape := ⟨2, ![32, 16384]⟩
abbrev S16384x16384 : Shape := ⟨2, ![16384, 16384]⟩
abbrev S_ : Shape := ⟨0, ![]⟩
abbrev S16384 : Shape := ⟨1, ![16384]⟩
abbrev S16384x1 : Shape := ⟨2, ![16384, 1]⟩
abbrev S1x16384 : Shape := ⟨2, ![1, 16384]⟩
abbrev S16384x6 : Shape := ⟨2, ![16384, 6]⟩
abbrev S16384x5 : Shape := ⟨2, ![16384, 5]⟩

class Facts : Prop where
  transposes_S16384x32_S32x16384_1_0 : S16384x32.Transposes [1, 0] S32x16384
  bcast_S_S16384x32 : S_.BroadcastsInDim S16384x32 (![] : Fin 0 → Fin S16384x32.rank)
  reducesTo_S16384x32_S16384_d1 : S16384x32.ReducesTo [1] S16384
  h_S_ : 0 < S_.numel
  bcast_S16384_S16384x1_0 : S16384.BroadcastsInDim S16384x1 (![0] : Fin 1 → Fin S16384x1.rank)
  transposes_S16384x1_S1x16384_1_0 : S16384x1.Transposes [1, 0] S1x16384
  sliceFits_S16384x16384_S16384x6 : S16384x16384.Slices (fun _ => 0) S16384x6
  slices_S16384x6_S16384x5_0_0 : S16384x6.Slices ![0, 0] S16384x5
  slices_S16384x6_S16384x5_0_1 : S16384x6.Slices ![0, 1] S16384x5
  dot_S16384x32_S32x16384_S16384x16384_1_0_0_1_n_n_wf : DotDims.WF S16384x32 S32x16384 S16384x16384 [1] [0] [0] [1] [] []
  dot_S16384x1_S1x16384_S16384x16384_1_0_0_1_n_n_wf : DotDims.WF S16384x1 S1x16384 S16384x16384 [1] [0] [0] [1] [] []

variable [Facts]

def dot_S16384x32_S32x16384_S16384x16384_1_0_0_1_n_n : DotDims S16384x32 S32x16384 S16384x16384 where
  lhsContracting := [1]
  rhsContracting := [0]
  lhsNonContracting := [0]
  rhsNonContracting := [1]
  lhsBatch := []
  rhsBatch := []
  wf := dot_S16384x32_S32x16384_S16384x16384_1_0_0_1_n_n_wf
def dot_S16384x1_S1x16384_S16384x16384_1_0_0_1_n_n : DotDims S16384x1 S1x16384 S16384x16384 where
  lhsContracting := [1]
  rhsContracting := [0]
  lhsNonContracting := [0]
  rhsNonContracting := [1]
  lhsBatch := []
  rhsBatch := []
  wf := dot_S16384x1_S1x16384_S16384x16384_1_0_0_1_n_n_wf
def fn {F : FTy → Type} [FloatOps F] (main_arg0 : FVec F S16384x32 .f32) : IVec S16384x5 1 :=
  let main_v0 : FVec F S32x16384 .f32 := (transpose S32x16384 [1, 0] · transposes_S16384x32_S32x16384_1_0) main_arg0
  let main_v1 : FVec F S16384x16384 .f32 := (fun l r => Host.dotGeneral dot_S16384x32_S32x16384_S16384x16384_1_0_0_1_n_n none l r) main_arg0 main_v0
  let main_v2 : FVec F S16384x32 .f32 := mulf main_arg0 main_arg0
  let main_cst : FVec F S_ .f32 := constant S_ .f32 0x358637BD#32
  let main_v3 : FVec F S16384x32 .f32 := broadcastInDim S16384x32 ![] bcast_S_S16384x32 main_cst
  let main_v4 : FVec F S16384x32 .f32 := addf main_v2 main_v3
  let main_cst_0 : FVec F S_ .f32 := constant S_ .f32 0x00000000#32
  let main_v5 : FVec F S16384 .f32 := (fun x v => Host.reduceAdd x v reducesTo_S16384x32_S16384_d1 h_S_) main_v4 main_cst_0
  let main_v6 : FVec F S16384 .f32 := Host.sqrt main_v5
  let main_v7 : FVec F S16384x1 .f32 := broadcastInDim S16384x1 ![0] bcast_S16384_S16384x1_0 main_v6
  let main_v8 : FVec F S1x16384 .f32 := (transpose S1x16384 [1, 0] · transposes_S16384x1_S1x16384_1_0) main_v7
  let main_v9 : FVec F S16384x16384 .f32 := (fun l r => Host.dotGeneral dot_S16384x1_S1x16384_S16384x16384_1_0_0_1_n_n none l r) main_v7 main_v8
  let main_v10 : FVec F S16384x16384 .f32 := Host.divf main_v1 main_v9
  let main_values : FVec F S16384x6 .f32 := (fun x => (Host.topK S16384x6 1 (FloatOps.cmpfTotal .gt) x sliceFits_S16384x16384_S16384x6).1) main_v10
  let main_indices : IVec S16384x6 32 := (fun x => (Host.topK S16384x6 1 (FloatOps.cmpfTotal .gt) x sliceFits_S16384x16384_S16384x6).2) main_v10
  let main_v11 : FVec F S16384x5 .f32 := (extractStridedSlice S16384x5 ![0, 0] · slices_S16384x6_S16384x5_0_0) main_values
  let main_v12 : FVec F S16384x5 .f32 := (extractStridedSlice S16384x5 ![0, 1] · slices_S16384x6_S16384x5_0_1) main_values
  let main_v13 : IVec S16384x5 1 := cmpf .ogt main_v11 main_v12
  main_v13
-- ==== Kernel.lean ====
abbrev S16384x32 : Shape := ⟨2, ![16384, 32]⟩
abbrev S_ : Shape := ⟨0, ![]⟩
abbrev S16384 : Shape := ⟨1, ![16384]⟩
abbrev S1x16384 : Shape := ⟨2, ![1, 16384]⟩
abbrev S256x32 : Shape := ⟨2, ![256, 32]⟩
abbrev S1x256 : Shape := ⟨2, ![1, 256]⟩
abbrev S256 : Shape := ⟨1, ![256]⟩
abbrev S256x16384 : Shape := ⟨2, ![256, 16384]⟩
abbrev S256x1 : Shape := ⟨2, ![256, 1]⟩

abbrev nBuf : Space → Nat
  | .hbm => 13
  | .vmem => 8
  | .smem => 0
  | _ => 0

abbrev bufTy : (tb : Table) → Fin (tcTables nBuf tb) → BufTy
  | .hbm, ⟨0, _⟩ => ⟨S16384x32, .f32⟩
  | .hbm, ⟨1, _⟩ => ⟨S16384x32, .f32⟩
  | .hbm, ⟨2, _⟩ => ⟨S_, .f32⟩
  | .hbm, ⟨3, _⟩ => ⟨S16384x32, .f32⟩
  | .hbm, ⟨4, _⟩ => ⟨S16384x32, .f32⟩
  | .hbm, ⟨5, _⟩ => ⟨S_, .f32⟩
  | .hbm, ⟨6, _⟩ => ⟨S16384, .f32⟩
  | .hbm, ⟨7, _⟩ => ⟨S16384, .f32⟩
  | .hbm, ⟨8, _⟩ => ⟨S1x16384, .f32⟩
  | .hbm, ⟨9, _⟩ => ⟨S_, .f32⟩
  | .hbm, ⟨10, _⟩ => ⟨S1x16384, .f32⟩
  | .hbm, ⟨11, _⟩ => ⟨S1x16384, .f32⟩
  | .hbm, ⟨12, _⟩ => ⟨S16384x32, .f32⟩
  | .local _ .vmem, ⟨0, _⟩ => ⟨S256x32, .f32⟩
  | .local _ .vmem, ⟨1, _⟩ => ⟨S256x32, .f32⟩
  | .local _ .vmem, ⟨2, _⟩ => ⟨S16384x32, .f32⟩
  | .local _ .vmem, ⟨3, _⟩ => ⟨S1x256, .f32⟩
  | .local _ .vmem, ⟨4, _⟩ => ⟨S1x256, .f32⟩
  | .local _ .vmem, ⟨5, _⟩ => ⟨S1x16384, .f32⟩
  | .local _ .vmem, ⟨6, _⟩ => ⟨S256x32, .f32⟩
  | .local _ .vmem, ⟨7, _⟩ => ⟨S256x32, .f32⟩
  | _, _ => ⟨S16384x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_call0_v0 : Ref sig .tc := ⟨.hbm, 1, rfl⟩
abbrev main_call0_cst : Ref sig .tc := ⟨.hbm, 2, rfl⟩
abbrev main_call0_v1 : Ref sig .tc := ⟨.hbm, 3, rfl⟩
abbrev main_call0_v2 : Ref sig .tc := ⟨.hbm, 4, rfl⟩
abbrev main_call0_cst_0 : Ref sig .tc := ⟨.hbm, 5, rfl⟩
abbrev main_call0_v3 : Ref sig .tc := ⟨.hbm, 6, rfl⟩
abbrev main_call0_v4 : Ref sig .tc := ⟨.hbm, 7, rfl⟩
abbrev main_call0_v5 : Ref sig .tc := ⟨.hbm, 8, rfl⟩
abbrev main_call0_cst_1 : Ref sig .tc := ⟨.hbm, 9, rfl⟩
abbrev main_call0_v6 : Ref sig .tc := ⟨.hbm, 10, rfl⟩
abbrev main_call0_v7 : Ref sig .tc := ⟨.hbm, 11, rfl⟩
abbrev main_v0 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16384x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x16384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x32 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S16384x32 : Shape := ⟨2, ![16384, 32]⟩
abbrev S32x16384 : Shape := ⟨2, ![32, 16384]⟩
abbrev S16384x16384 : Shape := ⟨2, ![16384, 16384]⟩
abbrev S_ : Shape := ⟨0, ![]⟩
abbrev S16384 : Shape := ⟨1, ![16384]⟩
abbrev S16384x1 : Shape := ⟨2, ![16384, 1]⟩
abbrev S1x16384 : Shape := ⟨2, ![1, 16384]⟩
abbrev S16384x5 : Shape := ⟨2, ![16384, 5]⟩
abbrev S16384x5x1 : Shape := ⟨3, ![16384, 5, 1]⟩
abbrev S1 : Shape := ⟨1, ![1]⟩
abbrev S1x1x1 : Shape := ⟨3, ![1, 1, 1]⟩
abbrev S16384x5x32 : Shape := ⟨3, ![16384, 5, 32]⟩

abbrev nBuf : Space → Nat
  | .hbm => 72
  | .vmem => 0
  | .smem => 0
  | _ => 0

abbrev bufTy : (tb : Table) → Fin (tcTables nBuf tb) → BufTy
  | .hbm, ⟨0, _⟩ => ⟨S16384x32, .f32⟩
  | .hbm, ⟨1, _⟩ => ⟨S32x16384, .f32⟩
  | .hbm, ⟨2, _⟩ => ⟨S16384x16384, .f32⟩
  | .hbm, ⟨3, _⟩ => ⟨S16384x32, .f32⟩
  | .hbm, ⟨4, _⟩ => ⟨S_, .f32⟩
  | .hbm, ⟨5, _⟩ => ⟨S16384x32, .f32⟩
  | .hbm, ⟨6, _⟩ => ⟨S16384x32, .f32⟩
  | .hbm, ⟨7, _⟩ => ⟨S_, .f32⟩
  | .hbm, ⟨8, _⟩ => ⟨S16384, .f32⟩
  | .hbm, ⟨9, _⟩ => ⟨S16384, .f32⟩
  | .hbm, ⟨10, _⟩ => ⟨S16384x1, .f32⟩
  | .hbm, ⟨11, _⟩ => ⟨S1x16384, .f32⟩
  | .hbm, ⟨12, _⟩ => ⟨S16384x16384, .f32⟩
  | .hbm, ⟨13, _⟩ => ⟨S16384x16384, .f32⟩
  | .hbm, ⟨14, _⟩ => ⟨S_, .f32⟩
  | .hbm, ⟨15, _⟩ => ⟨S16384, .f32⟩
  | .hbm, ⟨16, _⟩ => ⟨S_, .f32⟩
  | .hbm, ⟨17, _⟩ => ⟨S16384, .f32⟩
  | .hbm, ⟨18, _⟩ => ⟨S16384, .f32⟩
  | .hbm, ⟨19, _⟩ => ⟨S16384x1, .f32⟩
  | .hbm, ⟨20, _⟩ => ⟨S16384x16384, .f32⟩
  | .hbm, ⟨21, _⟩ => ⟨S16384x16384, .f32⟩
  | .hbm, ⟨22, _⟩ => ⟨S16384x16384, .f32⟩
  | .hbm, ⟨23, _⟩ => ⟨S_, .f32⟩
  | .hbm, ⟨24, _⟩ => ⟨S16384, .f32⟩
  | .hbm, ⟨25, _⟩ => ⟨S16384x1, .f32⟩
  | .hbm, ⟨26, _⟩ => ⟨S16384x16384, .f32⟩
  | .hbm, ⟨27, _⟩ => ⟨S16384x16384, .f32⟩
  | .hbm, ⟨28, _⟩ => ⟨S16384x5, .f32⟩
  | .hbm, ⟨29, _⟩ => ⟨S16384x5, .i32⟩
  | .hbm, ⟨30, _⟩ => ⟨S_, .f32⟩
  | .hbm, ⟨31, _⟩ => ⟨S16384, .f32⟩
  | .hbm, ⟨32, _⟩ => ⟨S_, .f32⟩
  | .hbm, ⟨33, _⟩ => ⟨S16384, .f32⟩
  | .hbm, ⟨34, _⟩ => ⟨S16384, .f32⟩
  | .hbm, ⟨35, _⟩ => ⟨S16384x1, .f32⟩
  | .hbm, ⟨36, _⟩ => ⟨S16384x5, .f32⟩
  | .hbm, ⟨37, _⟩ => ⟨S16384x5, .f32⟩
  | .hbm, ⟨38, _⟩ => ⟨S16384x5, .f32⟩
  | .hbm, ⟨39, _⟩ => ⟨S_, .f32⟩
  | .hbm, ⟨40, _⟩ => ⟨S16384, .f32⟩
  | .hbm, ⟨41, _⟩ => ⟨S16384x1, .f32⟩
  | .hbm, ⟨42, _⟩ => ⟨S16384x5, .f32⟩
  | .hbm, ⟨43, _⟩ => ⟨S16384x5, .f32⟩
  | .hbm, ⟨44, _⟩ => ⟨S_, .i32⟩
  | .hbm, ⟨45, _⟩ => ⟨S16384x5, .i32⟩
  | .hbm, ⟨46, _⟩ => ⟨S16384x5, .i1⟩
  | .hbm, ⟨47, _⟩ => ⟨S_, .i32⟩
  | .hbm, ⟨48, _⟩ => ⟨S16384x5, .i32⟩
  | .hbm, ⟨49, _⟩ => ⟨S16384x5, .i32⟩
  | .hbm, ⟨50, _⟩ => ⟨S16384x5, .i32⟩
  | .hbm, ⟨51, _⟩ => ⟨S16384x5x1, .i32⟩
  | .hbm, ⟨52, _⟩ => ⟨S1, .i32⟩
  | .hbm, ⟨53, _⟩ => ⟨S_, .i32⟩
  | .hbm, ⟨54, _⟩ => ⟨S16384x5x1, .i32⟩
  | .hbm, ⟨55, _⟩ => ⟨S16384x5x1, .i1⟩
  | .hbm, ⟨56, _⟩ => ⟨S1x1x1, .i32⟩
  | .hbm, ⟨57, _⟩ => ⟨S16384x5x1, .i32⟩
  | .hbm, ⟨58, _⟩ => ⟨S16384x5x1, .i1⟩
  | .hbm, ⟨59, _⟩ => ⟨S16384x5x1, .i1⟩
  | .hbm, ⟨60, _⟩ => ⟨S_, .i1⟩
  | .hbm, ⟨61, _⟩ => ⟨S16384x5, .i1⟩
  | .hbm, ⟨62, _⟩ => ⟨S16384x5x32, .f32⟩
  | .hbm, ⟨63, _⟩ => ⟨S16384x5x32, .i1⟩
  | .hbm, ⟨64, _⟩ => ⟨S_, .f32⟩
  | .hbm, ⟨65, _⟩ => ⟨S16384x5x32, .f32⟩
  | .hbm, ⟨66, _⟩ => ⟨S16384x5x32, .f32⟩
  | .hbm, ⟨67, _⟩ => ⟨S16384x5x1, .f32⟩
  | .hbm, ⟨68, _⟩ => ⟨S16384x5x32, .f32⟩
  | .hbm, ⟨69, _⟩ => ⟨S16384x5x32, .f32⟩
  | .hbm, ⟨70, _⟩ => ⟨S_, .f32⟩
  | .hbm, ⟨71, _⟩ => ⟨S16384x32, .f32⟩
  | _, _ => ⟨S16384x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_cst : Ref sig .tc := ⟨.hbm, 4, rfl⟩
abbrev main_v3 : Ref sig .tc := ⟨.hbm, 5, rfl⟩
abbrev main_v4 : Ref sig .tc := ⟨.hbm, 6, rfl⟩
abbrev main_cst_0 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst_1 : Ref sig .tc := ⟨.hbm, 14, rfl⟩
abbrev main_v11 : Ref sig .tc := ⟨.hbm, 15, rfl⟩
abbrev main_cst_2 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_cst_3 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_values : Ref sig .tc := ⟨.hbm, 28, rfl⟩
abbrev main_indices : Ref sig .tc := ⟨.hbm, 29, rfl⟩
abbrev main_cst_4 : Ref sig .tc := ⟨.hbm, 30, rfl⟩
abbrev main_v22 : Ref sig .tc := ⟨.hbm, 31, rfl⟩
abbrev main_cst_5 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_6 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_call0_c : Ref sig .tc := ⟨.hbm, 44, rfl⟩
abbrev main_call0_v0 : Ref sig .tc := ⟨.hbm, 45, rfl⟩
abbrev main_call0_v1 : Ref sig .tc := ⟨.hbm, 46, rfl⟩
abbrev main_call0_c_0 : Ref sig .tc := ⟨.hbm, 47, rfl⟩
abbrev main_call0_v2 : Ref sig .tc := ⟨.hbm, 48, rfl⟩
abbrev main_call0_v3 : Ref sig .tc := ⟨.hbm, 49, rfl⟩
abbrev main_call0_v4 : Ref sig .tc := ⟨.hbm, 50, rfl⟩
abbrev main_call0_v5 : Ref sig .tc := ⟨.hbm, 51, rfl⟩
abbrev main_call0_c_1 : Ref sig .tc := ⟨.hbm, 52, rfl⟩
abbrev main_call0_c_2 : Ref sig .tc := ⟨.hbm, 53, rfl⟩
abbrev main_call0_v6 : Ref sig .tc := ⟨.hbm, 54, rfl⟩
abbrev main_call0_v7 : Ref sig .tc := ⟨.hbm, 55, rfl⟩
abbrev main_call0_v8 : Ref sig .tc := ⟨.hbm, 56, rfl⟩
abbrev main_call0_v9 : Ref sig .tc := ⟨.hbm, 57, rfl⟩
abbrev main_call0_v10 : Ref sig .tc := ⟨.hbm, 58, rfl⟩
abbrev main_call0_v11 : Ref sig .tc := ⟨.hbm, 59, rfl⟩
abbrev main_call0_c_3 : Ref sig .tc := ⟨.hbm, 60, rfl⟩
abbrev main_call0_v12 : Ref sig .tc := ⟨.hbm, 61, rfl⟩
abbrev main_call0_v13 : Ref sig .tc := ⟨.hbm, 62, rfl⟩
abbrev main_call0_v14 : Ref sig .tc := ⟨.hbm, 63, rfl⟩
abbrev main_call0_cst : Ref sig .tc := ⟨.hbm, 64, rfl⟩
abbrev main_call0_v15 : Ref sig .tc := ⟨.hbm, 65, rfl⟩
abbrev main_v33 : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩
abbrev main_cst_7 : Ref sig .tc := ⟨.hbm, 70, rfl⟩
abbrev main_v37 : Ref sig .tc := ⟨.hbm, 71, rfl⟩

abbrev nD : Nat := 1
abbrev τ : Topo := Topo.v7x

variable {F : FTy → Type} [FloatOps F]
-- ==== Proof.Row.lean ====
/-
  One row of the problem, as mathematics on the extended reals. A row is the family `s` of one session's similarities to
  every session; `E` is one column of the embeddings. The kernel finds the five greatest values of the row by taking a
  maximum five times, each time over what lies strictly below the last, and weighs every session whose similarity reaches
  the fifth (`blockOut`). The reference takes a softmax of the row, then a softmax of its values at the five best places
  `σ`, and sums the embeddings at those places with these weights (`softOut`). The two agree when the row is real and
  the five best places are ranked strictly, the rest strictly below them (`blockOut_eq_softOut`).
-/
module

public import Idealize.ShloMosaic.PureOps.Ideal
public import Idealize.ShloMosaic.PureOps.Ideal.Laws

@[expose] public section

noncomputable section

namespace Neighbours

open Idealize.ShloMosaic

variable {ι κ : Type} [Fintype ι] [Fintype κ]

/-- The softmax of a family, as the reference computes it: each entry's exponential below the greatest entry, divided by
    the sum of them all. -/
def softmax (q : κ → EReal) (k : κ) : EReal :=
  Ideal.div (Ideal.exp (q k - Finset.univ.sup q)) (∑ k', Ideal.exp (q k' - Finset.univ.sup q))

/-- What the reference computes from a row, its five best places `σ` and a column. -/
def softOut (s : ι → EReal) (σ : Fin 5 → ι) (E : ι → EReal) : EReal :=
  ∑ k, softmax (fun k => softmax s (σ k)) k * E (σ k)

/-- The greatest entry strictly below `v` (the least extended real if there is none). -/
def supBelow (s : ι → EReal) (v : EReal) : EReal := Finset.univ.sup fun j => if s j < v then s j else ⊥

/-- The kernel's `k`-th value: the greatest entry, then repeatedly the greatest entry strictly below the last. -/
def level (s : ι → EReal) : ℕ → EReal
  | 0 => Finset.univ.sup s
  | k + 1 => supBelow s (level s k)

/-- The kernel's sum of exponentials over the row. -/
def mass (s : ι → EReal) : EReal := ∑ j, Ideal.exp (s j - level s 0)

/-- The kernel's softmax of a value `v` of the row. -/
def prob (s : ι → EReal) (v : EReal) : EReal := Ideal.div (Ideal.exp (v - level s 0)) (mass s)

/-- The kernel's unnormalized weight of a value `v`: the exponential of its softmax below the greatest softmax. -/
def gain (s : ι → EReal) (v : EReal) : EReal := Ideal.exp (prob s v - prob s (level s 0))

/-- The kernel's normalizer: the weights of its five values, added in order. -/
def denom (s : ι → EReal) : EReal :=
  gain s (level s 0) + gain s (level s 1) + gain s (level s 2) + gain s (level s 3) + gain s (level s 4)

/-- What the kernel computes from a row and a column: the weights of the entries that reach its fifth value, applied to the
    column and divided by the normalizer. -/
def blockOut (s : ι → EReal) (E : ι → EReal) : EReal :=
  Ideal.div (∑ j, (if level s 4 ≤ s j then gain s (s j) else 0) * E j) (denom s)

/-- The places `σ` hold the five greatest entries of the real row `r`, strictly ranked, and every other entry is strictly
    below the fifth. -/
structure Ranked (r : ι → ℝ) (σ : Fin 5 → ι) : Prop where
  anti : StrictAnti fun k => r (σ k)
  rest : ∀ j, j ∉ Set.range σ → r j < r (σ 4)

theorem Ranked.inj {r : ι → ℝ} {σ : Fin 5 → ι} (h : Ranked r σ) : Function.Injective σ :=
  fun _ _ e => h.anti.injective (congrArg r e)

/-- An entry reaches the fifth value exactly at the five places. -/
theorem Ranked.mem_iff {r : ι → ℝ} {σ : Fin 5 → ι} (h : Ranked r σ) (j : ι) : r (σ 4) ≤ r j ↔ j ∈ Set.range σ := by
  constructor
  · intro hj; by_contra hn; exact absurd (h.rest j hn) (not_lt.mpr hj)
  · rintro ⟨k, rfl⟩; exact h.anti.antitone (Fin.le_last k)

/-- Every entry below the value at place `k` is at most the value at the next place. -/
theorem Ranked.le_next {r : ι → ℝ} {σ : Fin 5 → ι} (h : Ranked r σ) (k : Fin 4) (j : ι) (hj : r j < r (σ k.castSucc)) :
    r j ≤ r (σ k.succ) := by
  by_cases hm : j ∈ Set.range σ
  · obtain ⟨l, rfl⟩ := hm
    exact h.anti.antitone (Fin.le_def.mpr (Fin.lt_def.mp (h.anti.lt_iff_gt.mp hj)))
  · exact (h.rest j hm).le.trans (h.anti.antitone (Fin.le_last _))

/-- Every entry is at most the value at the first place. -/
theorem Ranked.le_first {r : ι → ℝ} {σ : Fin 5 → ι} (h : Ranked r σ) (j : ι) : r j ≤ r (σ 0) := by
  by_cases hm : j ∈ Set.range σ
  · obtain ⟨l, rfl⟩ := hm; exact h.anti.antitone (Fin.zero_le _)
  · exact (h.rest j hm).le.trans (h.anti.antitone (Fin.zero_le _))

/-! ## Real families inside the extended reals -/

/-- A sum of reals, read as extended reals. -/
theorem coe_sum (f : κ → ℝ) : ((∑ k, f k : ℝ) : EReal) = ∑ k, (f k : EReal) :=
  map_sum (⟨⟨Real.toEReal, EReal.coe_zero⟩, EReal.coe_add⟩ : ℝ →+ EReal) f Finset.univ

/-- The greatest entry of a real family that attains `M`. -/
theorem sup_coe (r : κ → ℝ) (k₀ : κ) (h : ∀ k, r k ≤ r k₀) : (Finset.univ.sup fun k => (r k : EReal)) = (r k₀ : EReal) :=
  le_antisymm (Finset.sup_le fun k _ => EReal.coe_le_coe_iff.mpr (h k))
    (Finset.le_sup (f := fun k => (r k : EReal)) (Finset.mem_univ k₀))

/-- A finite sum times a nonnegative real distributes, whatever extended reals are summed. -/
theorem sum_mul_coe (f : κ → EReal) {c : ℝ} (hc : 0 ≤ c) : (∑ k, f k) * (c : EReal) = ∑ k, f k * (c : EReal) := by
  classical
  induction (Finset.univ : Finset κ) using Finset.induction_on with
  | empty => simp
  | insert a t ha ih =>
    rw [Finset.sum_insert ha, Finset.sum_insert ha, ← ih]
    exact EReal.right_distrib_of_nonneg_of_ne_top (EReal.coe_nonneg.mpr hc) (EReal.coe_ne_top c) _ _

/-- A quotient of reals by a nonzero real. -/
theorem div_coe_coe (a : ℝ) {b : ℝ} (hb : b ≠ 0) : Ideal.div (a : EReal) (b : EReal) = ((a / b : ℝ) : EReal) := by
  rw [Ideal.div_coe hb, ← EReal.coe_mul]; congr 1; ring

/-- The real softmax of a family whose greatest entry is at `k₀`. -/
def softmaxR (r : κ → ℝ) (k₀ k : κ) : ℝ := Real.exp (r k - r k₀) / ∑ k', Real.exp (r k' - r k₀)

theorem sum_exp_pos (r : κ → ℝ) (k₀ : κ) : 0 < ∑ k', Real.exp (r k' - r k₀) :=
  Finset.sum_pos (fun _ _ => Real.exp_pos _) ⟨k₀, Finset.mem_univ _⟩

/-- The softmax of a real family is the real softmax. -/
theorem softmax_coe (r : κ → ℝ) (k₀ : κ) (h : ∀ k, r k ≤ r k₀) (k : κ) :
    softmax (fun k => (r k : EReal)) k = (softmaxR r k₀ k : EReal) := by
  unfold softmax softmaxR
  rw [sup_coe r k₀ h]
  simp only [← EReal.coe_sub, Ideal.exp_coe, ← coe_sum]
  exact div_coe_coe _ (sum_exp_pos r k₀).ne'

/-- The real softmax keeps the order of the entries. -/
theorem softmaxR_lt (r : κ → ℝ) (k₀ k k' : κ) : softmaxR r k₀ k < softmaxR r k₀ k' ↔ r k < r k' := by
  unfold softmaxR
  rw [div_lt_div_iff_of_pos_right (sum_exp_pos r k₀), Real.exp_lt_exp]
  exact sub_lt_sub_iff_right _

/-! ## The kernel's row -/

variable {r : ι → ℝ} {σ : Fin 5 → ι}

/-- The kernel's five values are the entries at the five places. -/
theorem level_eq (h : Ranked r σ) (k : Fin 5) : level (fun j => (r j : EReal)) k = (r (σ k) : EReal) := by
  induction k using Fin.induction with
  | zero => exact sup_coe r (σ 0) h.le_first
  | succ k ih =>
    have ih' : level (fun j => (r j : EReal)) k.val = (r (σ k.castSucc) : EReal) := ih
    show supBelow _ (level _ k.val) = _
    rw [ih']
    refine le_antisymm (Finset.sup_le fun j _ => ?_) ?_
    · split
      · next hj => exact EReal.coe_le_coe_iff.mpr (h.le_next k j (EReal.coe_lt_coe_iff.mp hj))
      · exact bot_le
    · have hk : (r (σ k.succ) : EReal) < (r (σ k.castSucc) : EReal) := EReal.coe_lt_coe_iff.mpr (h.anti (Fin.castSucc_lt_succ))
      refine le_of_eq_of_le ?_ (Finset.le_sup (Finset.mem_univ (σ k.succ)))
      exact (if_pos hk).symm

/-- The kernel's softmax of an entry is the real softmax. -/
theorem prob_eq (h : Ranked r σ) (j : ι) : prob (fun j => (r j : EReal)) (r j : EReal) = (softmaxR r (σ 0) j : EReal) := by
  unfold prob mass softmaxR
  rw [show level (fun j => (r j : EReal)) 0 = (r (σ 0) : EReal) from level_eq h 0]
  simp only [← EReal.coe_sub, Ideal.exp_coe, ← coe_sum]
  exact div_coe_coe _ (sum_exp_pos r (σ 0)).ne'

/-- The kernel's weight of an entry is the exponential of a difference of real softmaxes. -/
theorem gain_eq (h : Ranked r σ) (j : ι) : gain (fun j => (r j : EReal)) (r j : EReal)
    = (Real.exp (softmaxR r (σ 0) j - softmaxR r (σ 0) (σ 0)) : EReal) := by
  unfold gain
  rw [show level (fun j => (r j : EReal)) 0 = (r (σ 0) : EReal) from level_eq h 0, prob_eq h, prob_eq h, ← EReal.coe_sub,
    Ideal.exp_coe]

/-- The kernel's normalizer is the sum of the five real weights. -/
theorem denom_eq (h : Ranked r σ) : denom (fun j => (r j : EReal))
    = ((∑ k, Real.exp (softmaxR r (σ 0) (σ k) - softmaxR r (σ 0) (σ 0)) : ℝ) : EReal) := by
  have e (k : Fin 5) : gain (fun j => (r j : EReal)) (level (fun j => (r j : EReal)) k)
      = (Real.exp (softmaxR r (σ 0) (σ k) - softmaxR r (σ 0) (σ 0)) : EReal) := by rw [level_eq h k, gain_eq h]
  unfold denom
  rw [Fin.sum_univ_five]
  simp only [EReal.coe_add]
  exact congrArg₂ _ (congrArg₂ _ (congrArg₂ _ (congrArg₂ _ (e 0) (e 1)) (e 2)) (e 3)) (e 4)

/-- THE ROW EQUATION: on a real row with five strictly best places, the kernel and the reference compute the same number
    from every column. -/
theorem blockOut_eq_softOut (h : Ranked r σ) (E : ι → EReal) :
    blockOut (fun j => (r j : EReal)) E = softOut (fun j => (r j : EReal)) σ E := by
  classical
  have hq (k : Fin 5) : softmaxR r (σ 0) (σ k) ≤ softmaxR r (σ 0) (σ 0) :=
    not_lt.mp fun hlt => absurd ((softmaxR_lt r (σ 0) _ _).mp hlt) (not_lt.mpr (h.le_first _))
  have hpos := sum_exp_pos (fun k => softmaxR r (σ 0) (σ k)) 0
  have hsum : (∑ j, (if level (fun j => (r j : EReal)) 4 ≤ (r j : EReal) then gain (fun j => (r j : EReal)) (r j : EReal) else 0) * E j)
      = ∑ k, (Real.exp (softmaxR r (σ 0) (σ k) - softmaxR r (σ 0) (σ 0)) : EReal) * E (σ k) := by
    refine (Fintype.sum_of_injective σ h.inj _ _ (fun j hj => ?_) fun k => ?_).symm
    · rw [show level (fun j => (r j : EReal)) 4 = (r (σ 4) : EReal) from level_eq h 4, if_neg, zero_mul]
      rw [EReal.coe_le_coe_iff, h.mem_iff]; exact hj
    · rw [show level (fun j => (r j : EReal)) 4 = (r (σ 4) : EReal) from level_eq h 4, if_pos, gain_eq h]
      rw [EReal.coe_le_coe_iff, h.mem_iff]; exact ⟨k, rfl⟩
  unfold blockOut softOut
  rw [hsum, denom_eq h, Ideal.div_coe hpos.ne', sum_mul_coe _ (one_div_pos.mpr hpos).le]
  refine Finset.sum_congr rfl fun k _ => ?_
  have hs : (fun k => softmax (fun j => (r j : EReal)) (σ k)) = fun k => (softmaxR r (σ 0) (σ k) : EReal) :=
    funext fun k => softmax_coe r (σ 0) h.le_first (σ k)
  rw [hs, softmax_coe (fun k => softmaxR r (σ 0) (σ k)) 0 hq k]
  have e : softmaxR (fun k => softmaxR r (σ 0) (σ k)) 0 k = Real.exp (softmaxR r (σ 0) (σ k) - softmaxR r (σ 0) (σ 0))
      * (1 / ∑ k', Real.exp (softmaxR r (σ 0) (σ k') - softmaxR r (σ 0) (σ 0))) := div_eq_mul_one_div _ _
  rw [e, EReal.coe_mul, mul_right_comm]

/-- The softmax of a real row orders the places as the row does. -/
theorem softmax_lt (h : Ranked r σ) (j j' : ι) :
    softmax (fun j => (r j : EReal)) j < softmax (fun j => (r j : EReal)) j' ↔ (r j : EReal) < (r j' : EReal) := by
  rw [softmax_coe r (σ 0) h.le_first, softmax_coe r (σ 0) h.le_first, EReal.coe_lt_coe_iff, EReal.coe_lt_coe_iff, softmaxR_lt]

end Neighbours

end
-- ==== Proof.Reads.lean ====
/-
  Reading, at an index, the operations of the two programs that fold or look up: the maximum and the sum over a row of a
  matrix (the kernel's reductions and the host's), and the host's lookup of rows of a matrix by an array of row numbers.
-/
module

public import proofs.«01_k».proof.Proof.Row
public import Idealize.ShloMosaic.Lib.KernelVsHost
public import Idealize.ShloMosaic.Lib.ValueIdx
public import Idealize.ShloMosaic.Lib.IdealHost

@[expose] public section

noncomputable section

namespace Neighbours

open Idealize.ShloMosaic Idealize.ShloMosaic.ValueIdx

/-- The pattern of negative infinity is the least extended real. -/
theorem ofBits_neg_inf : Ideal.ofBits .f32 0xFF800000#32 = ⊥ := by simp [Ideal.ofBits, Ideal.ieee]

/-- The pattern of one is one. -/
theorem ofBits_one : Ideal.ofBits .f32 0x3F800000#32 = 1 := by
  simp [Ideal.ofBits, Ideal.ieee]
  rw [← EReal.coe_mul, ← EReal.coe_one]
  norm_num

variable {R n : ℕ}

/-- Putting a column back into a row index. -/
theorem lift_row (h : (⟨2, ![R, n]⟩ : Shape).Reduces [1] ⟨1, ![R]⟩) (i : Fin R) (k : Fin n) : h.lift (ix1 i) k = ix2 i k := by
  funext a; match a with | ⟨0, _⟩ => rfl | ⟨1, _⟩ => rfl

/-- A kernel's maximum over the rows of a matrix, from negative infinity: the greatest entry of the row. -/
theorem rowMax_apply (y : FVec Ideal ⟨2, ![R, n]⟩ .f32) (h : (⟨2, ![R, n]⟩ : Shape).Reduces [1] ⟨1, ![R]⟩)
    (hφ : FKind.Formats .f32) (hacc : 0xFF800000#32 = FKind.maximumf.neutral .f32 hφ) (i : Fin R) :
    multiReduction .maximumf [1] ⟨1, ![R]⟩ y 0xFF800000#32 h hφ hacc (ix1 i) = Finset.univ.sup fun j : Fin n => y (ix2 i j) := by
  rw [Ideal.multiReduction_maximumf_single]
  have e : (y ∘ h.lift (ix1 i)) = fun j : Fin n => y (ix2 i j) := funext fun j => congrArg y (lift_row h i j)
  rw [e, show FloatOps.ofBits (F := Ideal) .f32 0xFF800000#32 = (⊥ : EReal) from ofBits_neg_inf]
  rfl

/-- A kernel's sum over the rows of a matrix. -/
theorem rowSum_apply (y : FVec Ideal ⟨2, ![R, n]⟩ .f32) (h : (⟨2, ![R, n]⟩ : Shape).Reduces [1] ⟨1, ![R]⟩)
    (hφ : FKind.Formats .f32) (hacc : 0x00000000#32 = FKind.add.neutral .f32 hφ) (i : Fin R) :
    multiReduction .add [1] ⟨1, ![R]⟩ y 0x00000000#32 h hφ hacc (ix1 i) = ∑ j : Fin n, y (ix2 i j) := by
  rw [Ideal.multiReduction_add_single]
  exact Finset.sum_congr rfl fun j _ => congrArg y (lift_row h i j)

/-- The host's maximum over the rows of a matrix, from negative infinity: the greatest entry of the row. -/
theorem hostRowMax_apply {u : Shape} (y : FVec Ideal ⟨2, ![R, n]⟩ .f32) (h : (⟨2, ![R, n]⟩ : Shape).ReducesTo [1] ⟨1, ![R]⟩)
    (hu : 0 < u.numel) (h' : (⟨2, ![R, n]⟩ : Shape).Reduces [1] ⟨1, ![R]⟩) (i : Fin R) :
    Host.reduce FloatOps.maximumf y (constant u .f32 0xFF800000#32) h hu (ix1 i) = Finset.univ.sup fun j : Fin n => y (ix2 i j) := by
  rw [hostReduce_maximumf_eq_multiReduction y 0xFF800000#32 h hu h' (.inl rfl) rfl]
  exact rowMax_apply y h' (.inl rfl) rfl i

variable {N D C : ℕ}

/-- The dimension numbers of a lookup of rows of an `N × D` matrix by an `R × C` array of row numbers. -/
abbrev rowsDims (wf : GatherDims.WF ⟨2, ![N, D]⟩ ⟨3, ![R, C, 1]⟩ ⟨3, ![R, C, D]⟩ [2] [0] [] [0] [] 2 ![1, D]) :
    GatherDims ⟨2, ![N, D]⟩ ⟨3, ![R, C, 1]⟩ ⟨3, ![R, C, D]⟩ where
  offsetDims := [2]
  collapsedSliceDims := [0]
  operandBatchingDims := []
  startIndicesBatchingDims := []
  startIndexMap := [0]
  indexVectorDim := 2
  sliceSizes := ![1, D]
  wf := wf

/-- The lookup read at an index: where the row number there is that of row `q`, the entry of row `q`. -/
theorem rows_apply {α : Type} {w : ℕ} (wf : GatherDims.WF ⟨2, ![N, D]⟩ ⟨3, ![R, C, 1]⟩ ⟨3, ![R, C, D]⟩ [2] [0] [] [0] [] 2 ![1, D])
    (x : (⟨2, ![N, D]⟩ : Shape).Idx → α) (idx : IVec ⟨3, ![R, C, 1]⟩ w) (i : Fin R) (c : Fin C) (d : Fin D) (q : Fin N)
    (hq : (idx (ix3 i c 0)).toInt = q.val) :
    Host.gather (rowsDims wf) x idx (ix3 i c d) = x (ix2 q d) := by
  unfold Host.gather
  refine congrArg x (funext fun a => Fin.ext ?_)
  show (rowsDims wf).start (ix3 i c d) idx a + (rowsDims wf).batchCoord (ix3 i c d) a + (rowsDims wf).offCoord (ix3 i c d) a = _
  rw [GatherDims.batchCoord_eq_zero _ _ _ List.not_mem_nil, Nat.add_zero]
  have ha : a = 0 ∨ a = 1 := by
    match a with
    | ⟨0, _⟩ => exact Or.inl rfl
    | ⟨1, _⟩ => exact Or.inr rfl
  rcases ha with rfl | rfl
  · rw [GatherDims.offCoord_eq_zero _ _ _ (fun h => ((GatherDims.mem_sKept _ _).mp h).1 (List.mem_singleton.mpr rfl)), Nat.add_zero]
    unfold GatherDims.start
    rw [dif_pos (show (0 : Fin 2) ∈ (rowsDims wf).startIndexMap from List.mem_singleton.mpr rfl)]
    have hs : (rowsDims wf).siIdx (ix3 i c d) ⟨List.idxOf (0 : Fin 2) (rowsDims wf).startIndexMap,
        List.idxOf_lt_length_iff.2 (List.mem_singleton.mpr rfl)⟩ = ix3 i c 0 := by
      funext b; refine Fin.ext ?_
      match b with
      | ⟨0, _⟩ => rfl
      | ⟨1, _⟩ => rfl
      | ⟨2, _⟩ => rfl
    rw [hs, hq]
    show min q.val (N - 1) = q.val
    have := q.isLt
    omega
  · have h0 : (rowsDims wf).start (ix3 i c d) idx 1 = 0 := by
      unfold GatherDims.start
      rw [dif_neg (show ¬((1 : Fin 2) ∈ (rowsDims wf).startIndexMap) by simp)]
    exact (congrArg (· + _) h0).trans (Nat.zero_add _)

end Neighbours

end
-- ==== Proof.Block.lean ====
/-
  What the kernel computes in one block of rows. From the block's sessions `e`, all sessions `x`, and the two blocks `p`, `q`
  of inverse norms, its payloads at a row are the similarities of that row, its five successive maxima, and `blockOut` of
  the similarities (`block_apply`).
-/
module

public import proofs.«01_k».proof.Proof.Gen.KernelIdeal.Skeleton
public import proofs.«01_k».proof.Proof.Row
public import proofs.«01_k».proof.Proof.Reads
public import Idealize.ShloMosaic.Lib.Pipeline.Value

@[expose] public section

set_option maxRecDepth 16384

noncomputable section

namespace Cert.KernelIdeal.Block

open Cert.KernelIdeal Cert.KernelIdeal.Gen
open Idealize.ShloMosaic Idealize.ShloMosaic.ValueIdx Neighbours

/-! ## Layouts at an index -/

section Layout

variable {α : Type} {R n : ℕ}

/-- A vector laid along the rows of a matrix. -/
theorem col_apply (v : (⟨1, ![R]⟩ : Shape).Idx → α) (h : (⟨1, ![R]⟩ : Shape).ShapeCasts ⟨2, ![R, 1]⟩)
    (h' : (⟨2, ![R, 1]⟩ : Shape).Broadcasts ⟨2, ![R, n]⟩) (a : Fin R) (j : Fin n) :
    broadcastTo ⟨2, ![R, n]⟩ (shapeCast ⟨2, ![R, 1]⟩ v h) h' (ix2 a j) = v (ix1 a) := by
  refine (broadcastTo_apply _ h' (ix2 a j) (ix2 a 0) fun b => ?_).trans
    (shapeCast_apply v h (ix2 a 0) (ix1 a) ?_)
  · match b with
    | ⟨0, _⟩ =>
      show a.val = if R = 1 then 0 else a.val
      have := a.isLt
      split <;> omega
    | ⟨1, _⟩ => exact (if_pos rfl).symm
  · rw [Shape.rowMajor_val_one, Shape.rowMajor_val_two]
    show a.val = a.val * 1 + 0
    omega

/-- A one-row matrix repeated down the rows of a matrix. -/
theorem row_apply (v : (⟨2, ![1, n]⟩ : Shape).Idx → α) (h : (⟨2, ![1, n]⟩ : Shape).Broadcasts ⟨2, ![R, n]⟩) (a : Fin R) (j : Fin n) :
    broadcastTo ⟨2, ![R, n]⟩ v h (ix2 a j) = v (ix2 0 j) := by
  refine broadcastTo_apply v h (ix2 a j) (ix2 0 j) fun b => ?_
  match b with
  | ⟨0, _⟩ => exact (if_pos rfl).symm
  | ⟨1, _⟩ =>
    show j.val = if n = 1 then 0 else j.val
    have := j.isLt
    split <;> omega

/-- A one-row matrix as a vector. -/
theorem flat_apply (v : (⟨2, ![1, n]⟩ : Shape).Idx → α) (h : (⟨2, ![1, n]⟩ : Shape).ShapeCasts ⟨1, ![n]⟩) (j : Fin n) :
    shapeCast ⟨1, ![n]⟩ v h (ix1 j) = v (ix2 0 j) := by
  refine shapeCast_apply v h (ix1 j) (ix2 0 j) ?_
  rw [Shape.rowMajor_val_one, Shape.rowMajor_val_two]
  show 0 * n + j.val = j.val
  omega

/-- A vector as a one-row matrix. -/
theorem unflat_apply (v : (⟨1, ![n]⟩ : Shape).Idx → α) (h : (⟨1, ![n]⟩ : Shape).ShapeCasts ⟨2, ![1, n]⟩) (j : Fin n) :
    shapeCast ⟨2, ![1, n]⟩ v h (ix2 0 j) = v (ix1 j) := by
  refine shapeCast_apply v h (ix2 0 j) (ix1 j) ?_
  rw [Shape.rowMajor_val_one, Shape.rowMajor_val_two]
  show j.val = 0 * n + j.val
  omega

end Layout

/-! ## The two products -/

/-- The product of the block's sessions with all sessions. -/
theorem dots_apply (e : FVec Ideal S256x32 .f32) (x : FVec Ideal S16384x32 .f32) (a : Fin 256) (j : Fin 16384) :
    matmul dot_S256x32_S16384x32_S256x16384_1_1_0_0_n_n none e x (constant S256x16384 .f32 0x00000000#32) (ix2 a j)
      = ∑ d : Fin 32, e (ix2 a d) * x (ix2 j d) := by
  refine (Ideal.matmul_apply dot_S256x32_S16384x32_S256x16384_1_1_0_0_n_n none e x _ (ix2 a j)).trans ?_
  rw [show constant (F := Ideal) S256x16384 .f32 0x00000000#32 (ix2 a j) = (0 : EReal) from Ideal.ofBits_zero_f32, zero_add,
    ← Equiv.sum_comp (contrEquiv1 dot_S256x32_S16384x32_S256x16384_1_1_0_0_n_n 32 rfl rfl).symm]
  refine Finset.sum_congr rfl fun d _ => ?_
  have hd := contrEquiv1_symm_val dot_S256x32_S16384x32_S256x16384_1_1_0_0_n_n 32 rfl rfl d
  refine congrArg₂ (· * ·) (congrArg e (funext fun b => Fin.ext ?_)) (congrArg x (funext fun b => Fin.ext ?_))
  · match b with
    | ⟨0, _⟩ =>
      show (dot_S256x32_S16384x32_S256x16384_1_1_0_0_n_n.lhsIdx _ _ 0).val = a.val
      unfold DotDims.lhsIdx
      rw [dif_neg (show ¬(0 : Fin S256x32.rank) ∈ dot_S256x32_S16384x32_S256x16384_1_1_0_0_n_n.lhsBatch by decide),
        dif_pos (show (0 : Fin S256x32.rank) ∈ dot_S256x32_S16384x32_S256x16384_1_1_0_0_n_n.lhsNonContracting by decide)]
      rfl
    | ⟨1, _⟩ => exact (dot_S256x32_S16384x32_S256x16384_1_1_0_0_n_n.lhsIdx_val_of_single rfl _ _).trans hd
  · match b with
    | ⟨0, _⟩ =>
      show (dot_S256x32_S16384x32_S256x16384_1_1_0_0_n_n.rhsIdx _ _ 0).val = j.val
      unfold DotDims.rhsIdx
      rw [dif_neg (show ¬(0 : Fin S16384x32.rank) ∈ dot_S256x32_S16384x32_S256x16384_1_1_0_0_n_n.rhsBatch by decide),
        dif_pos (show (0 : Fin S16384x32.rank) ∈ dot_S256x32_S16384x32_S256x16384_1_1_0_0_n_n.rhsNonContracting by decide)]
      rfl
    | ⟨1, _⟩ => exact (dot_S256x32_S16384x32_S256x16384_1_1_0_0_n_n.rhsIdx_val_of_single rfl _ _).trans hd

/-- The product of a block of weights with all sessions. -/
theorem weigh_apply (w : FVec Ideal S256x16384 .f32) (x : FVec Ideal S16384x32 .f32) (a : Fin 256) (d : Fin 32) :
    matmul dot_S256x16384_S16384x32_S256x32_1_0_0_1_n_n none w x (constant S256x32 .f32 0x00000000#32) (ix2 a d)
      = ∑ j : Fin 16384, w (ix2 a j) * x (ix2 j d) := by
  refine (Ideal.matmul_apply dot_S256x16384_S16384x32_S256x32_1_0_0_1_n_n none w x _ (ix2 a d)).trans ?_
  rw [show constant (F := Ideal) S256x32 .f32 0x00000000#32 (ix2 a d) = (0 : EReal) from Ideal.ofBits_zero_f32, zero_add,
    ← Equiv.sum_comp (contrEquiv1 dot_S256x16384_S16384x32_S256x32_1_0_0_1_n_n 16384 rfl rfl).symm]
  refine Finset.sum_congr rfl fun j _ => ?_
  have hj := contrEquiv1_symm_val dot_S256x16384_S16384x32_S256x32_1_0_0_1_n_n 16384 rfl rfl j
  refine congrArg₂ (· * ·) (congrArg w (funext fun b => Fin.ext ?_)) (congrArg x (funext fun b => Fin.ext ?_))
  · match b with
    | ⟨0, _⟩ =>
      show (dot_S256x16384_S16384x32_S256x32_1_0_0_1_n_n.lhsIdx _ _ 0).val = a.val
      unfold DotDims.lhsIdx
      rw [dif_neg (show ¬(0 : Fin S256x16384.rank) ∈ dot_S256x16384_S16384x32_S256x32_1_0_0_1_n_n.lhsBatch by decide),
        dif_pos (show (0 : Fin S256x16384.rank) ∈ dot_S256x16384_S16384x32_S256x32_1_0_0_1_n_n.lhsNonContracting by decide)]
      rfl
    | ⟨1, _⟩ => exact (dot_S256x16384_S16384x32_S256x32_1_0_0_1_n_n.lhsIdx_val_of_single rfl _ _).trans hj
  · match b with
    | ⟨0, _⟩ => exact (dot_S256x16384_S16384x32_S256x32_1_0_0_1_n_n.rhsIdx_val_of_single rfl _ _).trans hj
    | ⟨1, _⟩ =>
      show (dot_S256x16384_S16384x32_S256x32_1_0_0_1_n_n.rhsIdx _ _ 1).val = d.val
      unfold DotDims.rhsIdx
      rw [dif_neg (show ¬(1 : Fin S16384x32.rank) ∈ dot_S256x16384_S16384x32_S256x32_1_0_0_1_n_n.rhsBatch by decide),
        dif_pos (show (1 : Fin S16384x32.rank) ∈ dot_S256x16384_S16384x32_S256x32_1_0_0_1_n_n.rhsNonContracting by decide)]
      rfl

/-! ## The payloads -/

variable (x : FVec Ideal S16384x32 .f32) (e : FVec Ideal S256x32 .f32) (p : FVec Ideal S1x256 .f32) (q : FVec Ideal S1x16384 .f32)

/-- The similarities of row `a` of a block, as the kernel computes them. -/
def rowSim (a : Fin 256) (j : Fin 16384) : EReal := (∑ d : Fin 32, e (ix2 a d) * x (ix2 j d)) * (p (ix2 0 a) * q (ix2 0 j))

/-- The kernel's similarities. -/
theorem sims_apply (a : Fin 256) (j : Fin 16384) : k0_pay2 (F := Ideal) x e p q (ix2 a j) = rowSim x e p q a j := by
  unfold k0_pay2
  rw [mulf_apply, mulf_apply, dots_apply, col_apply, flat_apply, row_apply, unflat_apply, flat_apply]
  rfl

/-- A comparison at the exact reals: the bit of the order. -/
theorem olt_iff (u v : EReal) : FloatOps.cmpf (F := Ideal) (φ := .f32) .olt u v = 1#1 ↔ u < v := by
  show BitVec.ofBool (decide (u < v)) = 1#1 ↔ _
  by_cases h : u < v <;> simp [h]

/-- A comparison at the exact reals: the bit of the order. -/
theorem oge_iff (u v : EReal) : FloatOps.cmpf (F := Ideal) (φ := .f32) .oge u v = 1#1 ↔ v ≤ u := by
  show BitVec.ofBool (decide (v ≤ u)) = 1#1 ↔ _
  by_cases h : v ≤ u <;> simp [h]

/-- One step of the successive maxima: the greatest entry of the row below the previous maximum. -/
theorem next_apply (y : FVec Ideal S256x16384 .f32) (v : FVec Ideal S256 .f32) (a : Fin 256) :
    multiReduction .maximumf [1] S256
      (select (cmpf .olt y (broadcastTo S256x16384 (shapeCast S256x1 v shapeCasts_S256_S256x1) broadcasts_S256x1_S256x16384)) y
        (broadcast S256x16384 (Scalar.ofBits .f32 0xFF800000#32 : Ideal .f32)))
      0xFF800000#32 reduces_S256x16384_S256 (.inl rfl) rfl (ix1 a)
      = supBelow (fun j => y (ix2 a j)) (v (ix1 a)) := by
  refine (rowMax_apply _ reduces_S256x16384_S256 (.inl rfl) rfl a).trans (congrArg _ (funext fun j => ?_))
  rw [select_apply, cmpf_apply, col_apply, broadcast_apply]
  by_cases h : y (ix2 a j) < v (ix1 a)
  · rw [(olt_iff _ _).mpr h, select_one, if_pos h]
  · rw [eq_zero_of_ne_one (fun h' => h ((olt_iff _ _).mp h')), select_zero, if_neg h]
    exact ofBits_neg_inf

/-- A row of the kernel's similarities. -/
theorem sims_row (a : Fin 256) : (fun j => k0_pay2 (F := Ideal) x e p q (ix2 a j)) = rowSim x e p q a :=
  funext fun j => sims_apply x e p q a j

/-- The first maximum of a row. -/
theorem max0_apply (a : Fin 256) : k0_pay3 (F := Ideal) x e p q (ix1 a) = level (rowSim x e p q a) 0 := by
  refine (rowMax_apply _ reduces_S256x16384_S256 (.inl rfl) rfl a).trans ?_
  rw [sims_row]
  rfl

/-- The second maximum of a row. -/
theorem max1_apply (a : Fin 256) : k0_pay4 (F := Ideal) x e p q (ix1 a) = level (rowSim x e p q a) 1 :=
  (next_apply _ _ a).trans (by rw [sims_row, max0_apply]; rfl)

/-- The third maximum of a row. -/
theorem max2_apply (a : Fin 256) : k0_pay5 (F := Ideal) x e p q (ix1 a) = level (rowSim x e p q a) 2 :=
  (next_apply _ _ a).trans (by rw [sims_row, max1_apply]; rfl)

/-- The fourth maximum of a row. -/
theorem max3_apply (a : Fin 256) : k0_pay6 (F := Ideal) x e p q (ix1 a) = level (rowSim x e p q a) 3 :=
  (next_apply _ _ a).trans (by rw [sims_row, max2_apply]; rfl)

/-- The fifth maximum of a row. -/
theorem max4_apply (a : Fin 256) : k0_pay7 (F := Ideal) x e p q (ix1 a) = level (rowSim x e p q a) 4 :=
  (next_apply _ _ a).trans (by rw [sims_row, max3_apply]; rfl)

/-- The similarities less the first maximum. -/
theorem shifted_apply (a : Fin 256) (j : Fin 16384) :
    k0_pay8 (F := Ideal) x e p q (ix2 a j) = rowSim x e p q a j - level (rowSim x e p q a) 0 := by
  unfold k0_pay8
  rw [subf_apply, col_apply, sims_apply, max0_apply]

/-- The exponential of a vector at an index. -/
theorem exp_at {s : Shape} (y : FVec Ideal s .f32) (i : s.Idx) : exp y i = Ideal.exp (y i) := rfl

/-- The stored payload, from similarities `y`, their five maxima and the shifted similarities. -/
theorem stored_apply (y z : FVec Ideal S256x16384 .f32) (m₀ m₁ m₂ m₃ m₄ : FVec Ideal S256 .f32) (a : Fin 256) (d : Fin 32)
    (s : Fin 16384 → EReal) (hy : ∀ j, y (ix2 a j) = s j) (hz : ∀ j, z (ix2 a j) = s j - level s 0)
    (h₀ : m₀ (ix1 a) = level s 0) (h₁ : m₁ (ix1 a) = level s 1) (h₂ : m₂ (ix1 a) = level s 2) (h₃ : m₃ (ix1 a) = level s 3)
    (h₄ : m₄ (ix1 a) = level s 4) :
    k0_pay1 (F := Ideal) x y m₀ m₁ m₂ m₃ m₄ z (ix2 a d) = blockOut s (fun j => x (ix2 j d)) := by
  unfold k0_pay1
  have hm : multiReduction .add [1] S256 (exp z) 0x00000000#32 reduces_S256x16384_S256 (.inl rfl) rfl (ix1 a) = mass s := by
    refine (rowSum_apply _ reduces_S256x16384_S256 (.inl rfl) rfl a).trans ?_
    exact Finset.sum_congr rfl fun j _ => by rw [exp_at, hz]
  dsimp only
  generalize multiReduction .add [1] S256 (exp z) 0x00000000#32 reduces_S256x16384_S256 (.inl rfl) rfl = v42 at hm ⊢
  have prob_at (v : FVec Ideal S256 .f32) (k : ℕ) (hv : v (ix1 a) = level s k) :
      divf (exp (subf v m₀)) v42 (ix1 a) = prob s (level s k) := by
    rw [divf_apply, exp_at, subf_apply, hv, h₀, hm]; rfl
  have gain_at (v : FVec Ideal S256 .f32) (k : ℕ) (hv : v (ix1 a) = level s k) :
      exp (subf (divf (exp (subf v m₀)) v42) (divf (exp (subf m₀ m₀)) v42)) (ix1 a) = gain s (level s k) := by
    rw [exp_at, subf_apply, prob_at v k hv, prob_at m₀ 0 h₀]; rfl
  rw [divf_apply, weigh_apply, col_apply, addf_apply, addf_apply, addf_apply, addf_apply, gain_at m₀ 0 h₀, gain_at m₁ 1 h₁,
    gain_at m₂ 2 h₂, gain_at m₃ 3 h₃, gain_at m₄ 4 h₄]
  show Ideal.div _ _ = Ideal.div _ _
  refine congrArg₂ Ideal.div (Finset.sum_congr rfl fun j _ => congrArg (· * x (ix2 j d)) ?_) rfl
  rw [select_apply, cmpf_apply, col_apply, broadcast_apply, hy, h₄]
  by_cases h : level s 4 ≤ s j
  · rw [(oge_iff _ _).mpr h, select_one, if_pos h, exp_at, subf_apply, divf_apply, exp_at, subf_apply, col_apply, col_apply,
      col_apply, prob_at m₀ 0 h₀, hy, h₀, hm]
    rfl
  · rw [eq_zero_of_ne_one (fun h' => h ((oge_iff _ _).mp h')), select_zero, if_neg h]
    exact Ideal.ofBits_zero_f32

/-- WHAT THE KERNEL STORES at a row of a block: `blockOut` of the row's similarities and the sessions' entries. -/
theorem block_apply (a : Fin 256) (d : Fin 32) :
    k0_pay1 (F := Ideal) x (k0_pay2 x e p q) (k0_pay3 x e p q) (k0_pay4 x e p q) (k0_pay5 x e p q) (k0_pay6 x e p q)
      (k0_pay7 x e p q) (k0_pay8 x e p q) (ix2 a d) = blockOut (rowSim x e p q a) (fun j => x (ix2 j d)) :=
  stored_apply x _ _ _ _ _ _ _ a d _ (sims_apply x e p q a) (shifted_apply x e p q a) (max0_apply x e p q a)
    (max1_apply x e p q a) (max2_apply x e p q a) (max3_apply x e p q a) (max4_apply x e p q a)

end Cert.KernelIdeal.Block

end
-- ==== Proof.Similarity.lean ====
/-
  The similarities of the problem, as mathematics on the extended reals: sessions `X i`, the norm of a session with the
  small `eps` under the root, the similarity of two sessions as the reference divides it (`sim`) and as the kernel
  multiplies it by reciprocals (`sim_eq_mul`). A session with an infinite entry has infinite norm, hence similarity zero
  to every session; between two real sessions the similarity is real. So a row that is not constant is real
  (`sim_real`).
-/
module

public import proofs.«01_k».proof.Proof.Row

@[expose] public section

noncomputable section

namespace Neighbours

open Idealize.ShloMosaic

/-- The small number added to every squared entry before the root. -/
def eps : EReal := Ideal.ofBits .f32 0x358637BD#32

/-- It is a positive real. -/
theorem eps_pos : ∃ e : ℝ, 0 < e ∧ eps = (e : EReal) := by
  refine ⟨_, ?_, by unfold eps; simp [Ideal.ofBits, Ideal.ieee]; rfl⟩
  positivity

variable {n D : ℕ} (X : Fin n → Fin D → EReal)

/-- The norm of session `i`. -/
def norm (i : Fin n) : EReal := Ideal.sqrt (∑ d, (X i d * X i d + eps))

/-- The similarity of sessions `i` and `j`, as the reference computes it. -/
def sim (i j : Fin n) : EReal := Ideal.div (∑ d, X i d * X j d) (norm X i * norm X j)

/-- The reciprocal of a session's norm. -/
def invNorm (i : Fin n) : EReal := Ideal.div 1 (norm X i)

/-- Either session `i` is real and its norm is a positive real, or its norm is infinite. -/
theorem norm_cases (hD : 0 < D) (i : Fin n) :
    ((∃ x : Fin D → ℝ, ∀ d, X i d = (x d : EReal)) ∧ ∃ l : ℝ, 0 < l ∧ norm X i = (l : EReal)) ∨ norm X i = ⊤ := by
  classical
  obtain ⟨e, he, hee⟩ := eps_pos
  by_cases h : ∀ d, X i d ≠ ⊤ ∧ X i d ≠ ⊥
  · refine Or.inl ?_
    have hx (d : Fin D) : X i d = ((X i d).toReal : EReal) := (EReal.coe_toReal (h d).1 (h d).2).symm
    refine ⟨⟨fun d => (X i d).toReal, hx⟩, Real.sqrt (∑ d, ((X i d).toReal * (X i d).toReal + e)), ?_, ?_⟩
    · exact Real.sqrt_pos.mpr (Finset.sum_pos (fun d _ => add_pos_of_nonneg_of_pos (mul_self_nonneg _) he) ⟨⟨0, hD⟩, Finset.mem_univ _⟩)
    · unfold norm
      have hs : (∑ d, (X i d * X i d + eps)) = ((∑ d, ((X i d).toReal * (X i d).toReal + e) : ℝ) : EReal) := by
        rw [coe_sum]
        refine Finset.sum_congr rfl fun d _ => ?_
        rw [EReal.coe_add, EReal.coe_mul, ← hx d, hee]
      rw [hs, Ideal.sqrt_coe, if_neg (not_lt.mpr (Finset.sum_nonneg fun d _ => add_nonneg (mul_self_nonneg _) he.le))]
  · refine Or.inr ?_
    push Not at h
    obtain ⟨d, hd⟩ := h
    have hsq (d : Fin D) : 0 ≤ X i d * X i d + eps := by
      refine add_nonneg ?_ (by rw [hee]; exact EReal.coe_nonneg.mpr he.le)
      rcases le_total 0 (X i d) with h0 | h0
      · exact mul_nonneg h0 h0
      · exact EReal.mul_nonneg_iff.mpr (Or.inr ⟨h0, h0⟩)
    have ht : X i d * X i d + eps = ⊤ := by
      have : X i d * X i d = ⊤ := by
        by_cases h1 : X i d = ⊤
        · rw [h1]; exact EReal.top_mul_top
        · rw [hd h1]; exact EReal.bot_mul_bot
      rw [this, hee]; exact EReal.top_add_coe e
    have : (∑ d, (X i d * X i d + eps)) = ⊤ := by
      refine top_le_iff.mp ?_
      rw [← ht]
      exact Finset.single_le_sum (f := fun d => X i d * X i d + eps) (fun d _ => hsq d) (Finset.mem_univ d)
    unfold norm
    rw [this, Ideal.sqrt_top]

theorem norm_pos (hD : 0 < D) (i : Fin n) : 0 < norm X i := by
  rcases norm_cases X hD i with ⟨-, l, hl, e⟩ | e
  · rw [e]; exact EReal.coe_pos.mpr hl
  · rw [e]; exact EReal.zero_lt_top

/-- Division by a nonzero extended real is multiplication by its inverse. -/
theorem div_of_ne_zero (a : EReal) {b : EReal} (h : b ≠ 0) : Ideal.div a b = a * b⁻¹ := by
  unfold Ideal.div; rw [if_neg h]

/-- THE SIMILARITY BY RECIPROCALS: the kernel multiplies the product of two sessions by the reciprocals of both norms, which
    is the reference's quotient, infinite norms included. -/
theorem sim_eq_mul (hD : 0 < D) (i j : Fin n) : (∑ d, X i d * X j d) * (invNorm X i * invNorm X j) = sim X i j := by
  have hi := (norm_pos X hD i).ne'
  have hj := (norm_pos X hD j).ne'
  unfold sim invNorm
  rw [div_of_ne_zero _ hi, div_of_ne_zero _ hj, div_of_ne_zero _ (EReal.mul_pos (norm_pos X hD i) (norm_pos X hD j)).ne',
    one_mul, one_mul, EReal.mul_inv]

/-- A session of infinite norm has similarity zero to every session. -/
theorem sim_of_norm_top (hD : 0 < D) (i j : Fin n) (h : norm X i = ⊤ ∨ norm X j = ⊤) : sim X i j = 0 := by
  have hp : norm X i * norm X j = ⊤ := by
    rcases h with h | h
    · rw [h]; exact EReal.top_mul_of_pos (norm_pos X hD j)
    · rw [h]; exact EReal.mul_top_of_pos (norm_pos X hD i)
  unfold sim
  rw [hp, div_of_ne_zero _ (by simp), EReal.inv_top, mul_zero]

/-- A row with two different similarities is real. -/
theorem sim_real (hD : 0 < D) (i j₁ j₂ : Fin n) (hne : sim X i j₁ ≠ sim X i j₂) :
    ∃ r : Fin n → ℝ, ∀ j, sim X i j = (r j : EReal) := by
  suffices h : ∀ j, ∃ r : ℝ, sim X i j = (r : EReal) from ⟨fun j => (h j).choose, fun j => (h j).choose_spec⟩
  intro j
  rcases norm_cases X hD i with ⟨⟨x, hx⟩, l, hl, hli⟩ | hi
  · rcases norm_cases X hD j with ⟨⟨y, hy⟩, k, hk, hkj⟩ | hj
    · refine ⟨(∑ d, x d * y d) / (l * k), ?_⟩
      unfold sim
      rw [hli, hkj, ← EReal.coe_mul, ← div_coe_coe _ (mul_pos hl hk).ne', coe_sum]
      congr 1
      exact Finset.sum_congr rfl fun d _ => by rw [hx, hy, EReal.coe_mul]
    · exact ⟨0, (sim_of_norm_top X hD i j (Or.inr hj)).trans EReal.coe_zero.symm⟩
  · exact absurd ((sim_of_norm_top X hD i j₁ (Or.inl hi)).trans (sim_of_norm_top X hD i j₂ (Or.inl hi)).symm) hne

end Neighbours

end
-- ==== Proof.KernelValue.lean ====
/-
  The kernel's result array. The inverse norms the launch is given (`inv_apply`), the windows' blocks of the two arrays, what
  a grid point writes back (`flushed_eq`), and, the blocks tiling the result, the array after the run (`final`, `run`).
-/
module

public import proofs.«01_k».proof.Proof.Gen.KernelIdeal.Value
public import proofs.«01_k».proof.Proof.Block
public import proofs.«01_k».proof.Proof.Similarity
public import Idealize.ShloMosaic.Lib.Claim

@[expose] public section

set_option maxRecDepth 16384

noncomputable section

namespace Cert.KernelIdeal.RowValue

open Cert.KernelIdeal Cert.KernelIdeal.Gen Idealize.ShloMosaic Idealize.ShloMosaic.TcCoe Idealize.SL.Sem
open Idealize.ShloMosaic.ValueIdx Neighbours

/-! ## The inverse norms -/

/-- The row of inverse norms, as the host operations before the launch compute it. -/
def invRow (x : FVec Ideal S16384x32 .f32) : FVec Ideal S1x16384 .f32 :=
  Host.divf (broadcastInDim S1x16384 ![] bcast_S_S1x16384 (constant S_ .f32 0x3F800000#32))
    (broadcastInDim S1x16384 ![1] bcast_S16384_S1x16384_1
      (Host.sqrt (Host.reduceAdd (addf (mulf x x) (broadcastInDim S16384x32 ![] bcast_S_S16384x32 (constant S_ .f32 0x358637BD#32)))
        (constant S_ .f32 0x00000000#32) reducesTo_S16384x32_S16384_d1 h_S_)))

/-- The host's quotient at an index. -/
theorem hostDivf_apply {s : Shape} (u v : FVec Ideal s .f32) (i : s.Idx) : Host.divf u v i = Ideal.div (u i) (v i) := rfl

/-- The host's square root at an index. -/
theorem hostSqrt_apply {s : Shape} (u : FVec Ideal s .f32) (i : s.Idx) : Host.sqrt u i = Ideal.sqrt (u i) := rfl

/-- The host's sum of squares (each with the small constant added) of a session. -/
theorem squares_apply (x : FVec Ideal S16384x32 .f32) (i : Fin 16384) :
    Host.reduceAdd (addf (mulf x x) (broadcastInDim S16384x32 ![] bcast_S_S16384x32 (constant S_ .f32 0x358637BD#32)))
        (constant S_ .f32 0x00000000#32) reducesTo_S16384x32_S16384_d1 h_S_ (ix1 i)
      = ∑ d, (x (ix2 i d) * x (ix2 i d) + eps) := by
  have e (d : Fin 32) : addf (mulf x x) (broadcastInDim S16384x32 ![] bcast_S_S16384x32 (constant S_ .f32 0x358637BD#32)) (ix2 i d)
      = x (ix2 i d) * x (ix2 i d) + eps := rfl
  generalize addf (mulf x x) (broadcastInDim S16384x32 ![] bcast_S_S16384x32 (constant S_ .f32 0x358637BD#32)) = y at e ⊢
  simp only [Host.reduceAdd, Ideal.hostReduceAdd_def]
  rw [Ideal.hostReduceAdd_single reducesTo_S16384x32_S16384_d1 (by decide),
    show constant (F := Ideal) S_ .f32 0x00000000#32 (Shape.Idx.first h_S_) = (0 : EReal) from Ideal.ofBits_zero_f32, zero_add]
  refine Finset.sum_congr rfl fun d _ => ?_
  exact (congrArg y (funext fun a => Fin.ext (by match a with | ⟨0, _⟩ => rfl | ⟨1, _⟩ => rfl))).trans (e d)

/-- The host's inverse norm of a session. -/
theorem inv_apply (x : FVec Ideal S16384x32 .f32) (i : Fin 16384) : invRow x (ix2 0 i) = invNorm (fun i d => x (ix2 i d)) i := by
  have e₁ : broadcastInDim (α := Ideal .f32) S1x16384 ![] bcast_S_S1x16384 (constant S_ .f32 0x3F800000#32) (ix2 0 i) = (1 : EReal) :=
    ofBits_one
  have e₂ (v : FVec Ideal S16384 .f32) : broadcastInDim S1x16384 ![1] bcast_S16384_S1x16384_1 v (ix2 0 i) = v (ix1 i) :=
    broadcastInDim_apply _ bcast_S16384_S1x16384_1 v (ix2 0 i) (ix1 i) fun a => by
      match a with
      | ⟨0, _⟩ => show i.val = if (16384 : ℕ) = 1 then 0 else i.val; rw [if_neg (by decide)]
  unfold invRow
  rw [hostDivf_apply, e₁, e₂, hostSqrt_apply, squares_apply]
  rfl

variable (m : (ℓ : Loc nD τ sig) → Buf (Elt Ideal) ℓ) (ρ : Dev nD → PrngReg)

/-- Device `c`'s sessions. -/
abbrev arg (c : Dev nD) : FVec Ideal S16384x32 .f32 := m ((c : Thread nD τ).loc main_arg0)

/-- The sessions by row and column. -/
def sess (c : Dev nD) (i : Fin 16384) (d : Fin 32) : EReal := arg m c (ix2 i d)

/-- When the launch starts, its array of inverse norms holds `invRow` of the sessions. -/
theorem entry_inv (c : Dev nD) : V m c main_call0_v7 = invRow (arg m c) := by
  entry_read
  rfl

/-! ## The blocks -/

/-- Row `a` of block `t`. -/
def blockRow (t : Fin cfg0.N) (a : Fin 256) : Fin 16384 :=
  ⟨t.val * 256 + a.val, by have := t.isLt; have : cfg0.N = 64 := N_0; have := a.isLt; omega⟩

/-- The windows' block indices: the blocks of sessions, of inverse norms and of results move with the grid point; the two
    whole arrays stay. -/
theorem index_facts : ∀ t : Fin cfg0.N,
    (win0_0.index t (0 : Fin 2) = t.val ∧ win0_0.index t (1 : Fin 2) = 0)
    ∧ (win0_1.index t (0 : Fin 2) = 0 ∧ win0_1.index t (1 : Fin 2) = 0)
    ∧ (win0_2.index t (0 : Fin 2) = 0 ∧ win0_2.index t (1 : Fin 2) = t.val)
    ∧ (win0_3.index t (0 : Fin 2) = 0 ∧ win0_3.index t (1 : Fin 2) = 0)
    ∧ (win0_4.index t (0 : Fin 2) = t.val ∧ win0_4.index t (1 : Fin 2) = 0) :=
  (by decide +kernel : ∀ t : Fin grid0.N, _)

/-- A block of sessions holds the sessions of its rows. -/
theorem rows_block (c : Dev nD) (t : Fin cfg0.N) (a : Fin 256) (d : Fin 32) :
    (iblk m c 0 t : FVec Ideal S256x32 .f32) (ix2 a d) = sess m c (blockRow t a) d := by
  obtain ⟨e0, e1⟩ := (index_facts t).1
  show V m c main_arg0 (((cfg0.win 0).blk t).view.emb (ix2 a d)) = _
  rw [V_main_arg0]
  refine congrArg (arg m c) (funext fun b => Fin.ext ?_)
  match b with
  | ⟨0, _⟩ => show win0_0.index t (0 : Fin 2) * 256 + 1 * a.val = t.val * 256 + a.val; omega
  | ⟨1, _⟩ => show win0_0.index t (1 : Fin 2) * 32 + 1 * d.val = d.val; omega

/-- The second window holds all sessions. -/
theorem all_block (c : Dev nD) (t : Fin cfg0.N) (j : Fin 16384) (d : Fin 32) :
    (iblk m c 1 t : FVec Ideal S16384x32 .f32) (ix2 j d) = sess m c j d := by
  obtain ⟨e0, e1⟩ := (index_facts t).2.1
  show V m c main_arg0 (((cfg0.win 1).blk t).view.emb (ix2 j d)) = _
  rw [V_main_arg0]
  refine congrArg (arg m c) (funext fun b => Fin.ext ?_)
  match b with
  | ⟨0, _⟩ => show win0_1.index t (0 : Fin 2) * 16384 + 1 * j.val = j.val; omega
  | ⟨1, _⟩ => show win0_1.index t (1 : Fin 2) * 32 + 1 * d.val = d.val; omega

/-- A block of inverse norms holds those of its rows. -/
theorem inv_block (c : Dev nD) (t : Fin cfg0.N) (a : Fin 256) :
    (iblk m c 2 t : FVec Ideal S1x256 .f32) (ix2 0 a) = invNorm (sess m c) (blockRow t a) := by
  obtain ⟨e0, e1⟩ := (index_facts t).2.2.1
  show V m c main_call0_v7 (((cfg0.win 2).blk t).view.emb (ix2 0 a)) = _
  rw [entry_inv]
  refine Eq.trans (congrArg (invRow (arg m c)) (funext fun b => Fin.ext ?_)) (inv_apply (arg m c) (blockRow t a))
  match b with
  | ⟨0, _⟩ => show win0_2.index t (0 : Fin 2) * 1 + 1 * 0 = 0; omega
  | ⟨1, _⟩ => show win0_2.index t (1 : Fin 2) * 256 + 1 * a.val = t.val * 256 + a.val; omega

/-- The fourth window holds all inverse norms. -/
theorem allInv_block (c : Dev nD) (t : Fin cfg0.N) (j : Fin 16384) :
    (iblk m c 3 t : FVec Ideal S1x16384 .f32) (ix2 0 j) = invNorm (sess m c) j := by
  obtain ⟨e0, e1⟩ := (index_facts t).2.2.2.1
  show V m c main_call0_v7 (((cfg0.win 3).blk t).view.emb (ix2 0 j)) = _
  rw [entry_inv]
  refine Eq.trans (congrArg (invRow (arg m c)) (funext fun b => Fin.ext ?_)) (inv_apply (arg m c) j)
  match b with
  | ⟨0, _⟩ => show win0_3.index t (0 : Fin 2) * 1 + 1 * 0 = 0; omega
  | ⟨1, _⟩ => show win0_3.index t (1 : Fin 2) * 16384 + 1 * j.val = j.val; omega

/-- A place of a result block, in the result array. -/
theorem result_place (t : Fin cfg0.N) (i : S256x32.Idx) :
    ((cfg0.win 4).blk t).view.emb i = ix2 (blockRow t (i 0)) (i 1) := by
  obtain ⟨e0, e1⟩ := (index_facts t).2.2.2.2
  refine funext fun b => Fin.ext ?_
  match b with
  | ⟨0, _⟩ => show win0_4.index t (0 : Fin 2) * 256 + 1 * (i 0).val = t.val * 256 + (i 0).val; omega
  | ⟨1, _⟩ => show win0_4.index t (1 : Fin 2) * 32 + 1 * (i 1).val = (i 1).val; omega

/-! ## The result array -/

/-- What the kernel's result array is shown to hold. -/
def result (c : Dev nD) : Buf (Elt Ideal) ((c : Thread nD τ).loc main_v0) :=
  fun i : S16384x32.Idx => blockOut (sim (sess m c) (i 0)) (fun j => sess m c j (i 1))

/-- The similarities a block computes are those of its rows. -/
theorem rowSim_eq (c : Dev nD) (t : Fin cfg0.N) (a : Fin 256) :
    Block.rowSim (iblk m c 1 t) (iblk m c 0 t) (iblk m c 2 t) (iblk m c 3 t) a = sim (sess m c) (blockRow t a) := by
  funext j
  refine Eq.trans ?_ (sim_eq_mul (sess m c) (by norm_num) (blockRow t a) j)
  exact congrArg₂ (fun u v : EReal => u * v)
    (Finset.sum_congr rfl fun d _ => congrArg₂ (fun u v : EReal => u * v) (rows_block m c t a d) (all_block m c t j d))
    (congrArg₂ (fun u v : EReal => u * v) (inv_block m c t a) (allInv_block m c t j))

theorem origin : (![0, 0] : Fin 2 → Nat) = fun _ => 0 := funext fun a => by fin_cases a <;> rfl

/-- A result block is written back whole. -/
theorem cut_apply (t : Fin cfg0.N) (y : FVec Ideal S256x32 .f32) (i : S256x32.Idx) :
    (cfg0.win 4).cut (grid0.coords t) y i = y i := rfl

/-- A block of an array of the result's shape. -/
theorem read_apply (t : Fin cfg0.N) (y : FVec Ideal S16384x32 .f32) (i : S256x32.Idx) :
    ((cfg0.win 4).blk t).view.read (Elt Ideal) y i = y (((cfg0.win 4).blk t).view.emb i) := rfl

/-- What the kernel's body leaves at a place of the block of point `t`. -/
theorem out_apply (c : Dev nD) (t : Fin cfg0.N) (a : Fin 256) (d : Fin 32) :
    out0_4 (F := Ideal) (iblk m c 0 t) (iblk m c 1 t) (iblk m c 2 t) (iblk m c 3 t) (ix2 a d) = result m c (ix2 (blockRow t a) d) := by
  unfold out0_4
  rw [View.canon_unit_zero origin, View.ld_unit_zero origin, View.ld_unit_zero origin, View.ld_unit_zero origin,
    View.ld_unit_zero origin]
  exact (Block.block_apply _ _ _ _ a d).trans
    (congrArg₂ blockOut (rowSim_eq m c t a) (funext fun j => all_block m c t j d))

/-- What grid point `t` writes back is its block of the result. -/
theorem flushed_eq (c : Dev nD) (t : Fin cfg0.N) :
    (dats m 0 c).flushed 4 t = ((cfg0.win 4).blk t).view.read (Elt Ideal) (result m c) := by
  rw [Value.flushed4]
  funext (i : S256x32.Idx)
  have h : ((cfg0.win 4).blk t).view.read (Elt Ideal) (result m c) i = result m c (ix2 (blockRow t (i 0)) (i 1)) :=
    (read_apply t (result m c) i).trans (congrArg (result m c) (result_place t i))
  refine Eq.trans ?_ h.symm
  refine (cut_apply t _ i).trans (Eq.trans ?_ (out_apply m c t (i 0) (i 1)))
  exact congrArg _ (eq_ix2 i)

/-- A place of the result is in the block holding its row. -/
theorem mem_block (i : S16384x32.Idx) (t : Fin cfg0.N) (a : Fin 256) (h : blockRow t a = i 0) :
    i ∈ ((cfg0.win 4).blk t).view.set := by
  have e : ((cfg0.win 4).blk t).view.emb (ix2 a (i 1 : Fin 32) : S256x32.Idx) = i :=
    (result_place t (ix2 a (i 1 : Fin 32))).trans
      ((congrArg (fun r : Fin 16384 => ix2 r (i 1 : Fin 32)) h).trans (eq_ix2 i).symm)
  exact e ▸ ((cfg0.win 4).blk t).view.emb_mem_set (ix2 a (i 1 : Fin 32) : S256x32.Idx)

/-- The result's blocks tile its array. -/
theorem cover (i : S16384x32.Idx) : ∃ t : Fin cfg0.N, (cfg0.win 4).flush t = true ∧ i ∈ ((cfg0.win 4).blk t).view.set := by
  have h0 : (i 0).val < 16384 := (i 0).isLt
  have hN : cfg0.N = 64 := N_0
  refine ⟨⟨(i 0).val / 256, by omega⟩, flush0_4 _, mem_block i _ ⟨(i 0).val % 256, Nat.mod_lt _ (by norm_num)⟩ (Fin.ext ?_)⟩
  show (i 0).val / 256 * 256 + (i 0).val % 256 = (i 0).val
  omega

/-- THE RESULT ARRAY AFTER THE RUN. -/
theorem final (c : Dev nD) : (dats m 0 c).arrAt 4 cfg0.N = result m c :=
  (dats m 0 c).arrAt_eq_of_cover 4 (result m c) (fun t _ => flushed_eq m c t) cover

/-- The run: the result array holds `result`, the argument is unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0) :=
  (θ_run defs _ _).mono (fun _ h c => ⟨(h c).1.trans (final m c), (h c).2⟩) (Value.run_blocks m ρ)

end Cert.KernelIdeal.RowValue

end
-- ==== Proof.TopK.lean ====
/-
  The host's top-k of the rows of a matrix at the ideal values: entry `(i, c)` of the values is row `i`'s entry at the
  place `order` puts at `c`, and of the indices that place's number. `order` is the stable descending order of the row: it
  depends on the comparisons of the entries only (`order_congr`), and where the first six entries in order descend
  strictly, the first five places are strictly best (`ranked_best`).
-/
module

public import proofs.«01_k».proof.Proof.Row
public import Idealize.ShloMosaic.Lib.SortFacts
public import Idealize.ShloMosaic.Lib.ValueIdx
public import Idealize.ShloMosaic.Lib.Pipeline.Value
public import Idealize.ShloMosaic.Lib.IdealHost

@[expose] public section

noncomputable section

namespace Neighbours

open Idealize.ShloMosaic Idealize.ShloMosaic.ValueIdx

variable {n : ℕ}

/-- Position `a` comes before position `b` in a descending order of the row. -/
def above (s : Fin n → EReal) (a b : Fin n) : Bool := decide (s b < s a)

/-- The place whose entry comes at each position when the row is put in descending order, ties in their own order. -/
def order (s : Fin n → EReal) : Fin n → Fin n := sortedFrom (above s)

theorem order_injective (s : Fin n → EReal) : Function.Injective (order s) := sortedFrom_injective _
theorem order_surjective (s : Fin n → EReal) : Function.Surjective (order s) := sortedFrom_surjective _

/-- The entries descend along the order. -/
theorem order_antitone (s : Fin n → EReal) : Antitone fun k => s (order s k) := by
  refine antitone_iff_forall_lt.mpr fun i j hij => ?_
  have h := sortedFrom_noInversion (above s) (above s) (fun a b h => ?_) (fun _ _ h => h) (fun a b c hab hbc => ?_) i j hij
  · exact not_lt.mp (of_decide_eq_false h)
  · exact decide_eq_false (not_lt.mpr (of_decide_eq_true h).le)
  · exact decide_eq_false (not_lt.mpr ((not_lt.mp (of_decide_eq_false hab)).trans (not_lt.mp (of_decide_eq_false hbc))))

/-- Two rows whose entries compare alike are put in the same order. -/
theorem order_congr (s t : Fin n → EReal) (h : ∀ a b, s a < s b ↔ t a < t b) : order s = order t :=
  sortedFrom_congr _ _ fun a b _ => decide_eq_decide.mpr (h b a)

/-- The five best places of a row. -/
def best (hn : 5 ≤ n) (s : Fin n → EReal) (k : Fin 5) : Fin n := order s (k.castLE hn)

/-- Where the first six entries in order descend strictly, the five best places of a real row are strictly ranked and the
    rest strictly below them. -/
theorem ranked_best (hn : 6 ≤ n) (s : Fin n → EReal) (r : Fin n → ℝ) (hr : s = fun j => (r j : EReal))
    (h : ∀ k : Fin 5, s (order s (k.succ.castLE hn)) < s (order s (k.castSucc.castLE hn))) :
    Ranked r (best (by omega) s) := by
  have hlt (k : Fin 5) : r (order s (k.succ.castLE hn)) < r (order s (k.castSucc.castLE hn)) := by
    have hk := h k
    rw [congrFun hr, congrFun hr] at hk
    exact EReal.coe_lt_coe_iff.mp hk
  have hanti : Antitone fun k => r (order s k) := fun a b hab => by
    have h' := order_antitone s hab
    simp only [congrFun hr] at h'
    exact EReal.coe_le_coe_iff.mp h'
  refine ⟨Fin.strictAnti_iff_succ_lt.mpr fun k => hlt k.castSucc, fun j hj => ?_⟩
  obtain ⟨a, rfl⟩ := order_surjective s j
  have ha : 5 ≤ a.val := by
    by_contra hc
    exact hj ⟨⟨a.val, by omega⟩, rfl⟩
  exact (hanti (show (Fin.castLE hn (Fin.last 5)) ≤ a from ha)).trans_lt (hlt 4)

variable {R k : ℕ}

/-- Replacing the second coordinate of a matrix index. -/
theorem along_row (i : Fin R) (c q : Fin n) : Shape.Idx.along (s := ⟨2, ![R, n]⟩) (ix2 i c) 1 q = ix2 i q := by
  funext a; match a with | ⟨0, _⟩ => rfl | ⟨1, _⟩ => rfl

/-- A host sort of two matrices along their rows, read at an index: both are permuted by the sort of the row's pairs. -/
theorem sort2_rows {α β : Type} (cmp : α × β → α × β → BitVec 1) (x : (⟨2, ![R, n]⟩ : Shape).Idx → α)
    (y : (⟨2, ![R, n]⟩ : Shape).Idx → β) (i : Fin R) (c : Fin n) :
    (Host.sort2 ⟨2, ![R, n]⟩ 1 cmp x y).1 (ix2 i c)
        = x (ix2 i (sortedFrom (fun a b : Fin n => cmp (x (ix2 i a), y (ix2 i a)) (x (ix2 i b), y (ix2 i b)) == 1#1) c))
      ∧ (Host.sort2 ⟨2, ![R, n]⟩ 1 cmp x y).2 (ix2 i c)
        = y (ix2 i (sortedFrom (fun a b : Fin n => cmp (x (ix2 i a), y (ix2 i a)) (x (ix2 i b), y (ix2 i b)) == 1#1) c)) := by
  unfold Host.sort2
  rw [dif_pos (show 1 < (⟨2, ![R, n]⟩ : Shape).rank from Nat.one_lt_two)]
  have e (q : Fin n) := along_row (R := R) i c q
  have hs : (fun a b : Fin n => cmp (x (Shape.Idx.along (s := ⟨2, ![R, n]⟩) (ix2 i c) 1 a), y (Shape.Idx.along (s := ⟨2, ![R, n]⟩) (ix2 i c) 1 a))
      (x (Shape.Idx.along (s := ⟨2, ![R, n]⟩) (ix2 i c) 1 b), y (Shape.Idx.along (s := ⟨2, ![R, n]⟩) (ix2 i c) 1 b)) == 1#1)
      = fun a b : Fin n => cmp (x (ix2 i a), y (ix2 i a)) (x (ix2 i b), y (ix2 i b)) == 1#1 := by
    funext a b; rw [e, e]
  exact ⟨(congrArg x (e _)).trans (congrArg (fun f => x (ix2 i (sortedFrom f c))) hs),
    (congrArg y (e _)).trans (congrArg (fun f => y (ix2 i (sortedFrom f c))) hs)⟩

/-- The sorting permutation inside the host's top-k is the row's `order`. -/
theorem topK_places (s : Fin n → EReal) :
    sortedFrom (fun a b : Fin n => FloatOps.cmpfTotal (F := Ideal) (φ := .f32) .gt (s a) (s b) == 1#1) = order s := by
  refine sortedFrom_congr _ _ fun a b _ => ?_
  show (BitVec.ofBool (decide (s b < s a)) == 1#1) = decide (s b < s a)
  cases decide (s b < s a) <;> rfl

/-- A slice from the first column of a matrix, read at an index. -/
theorem slice_cols {α : Type} (x : (⟨2, ![R, n]⟩ : Shape).Idx → α) (hk : k ≤ n)
    (h : (⟨2, ![R, n]⟩ : Shape).Slices (fun _ => 0) ⟨2, ![R, k]⟩) (i : Fin R) (c : Fin k) :
    extractStridedSlice ⟨2, ![R, k]⟩ (fun _ => 0) x h (ix2 i c) = x (ix2 i (c.castLE hk)) :=
  extractStridedSlice_apply _ x h _ _ fun a => by
    match a with
    | ⟨0, _⟩ => exact (Nat.zero_add _).symm
    | ⟨1, _⟩ => exact (Nat.zero_add _).symm

/-- The host's top-k values at an index: the row's entry at the place ordered there. -/
theorem topK_fst_apply (x : (⟨2, ![R, n]⟩ : Shape).Idx → EReal) (hk : k ≤ n)
    (h : (⟨2, ![R, n]⟩ : Shape).Slices (fun _ => 0) ⟨2, ![R, k]⟩) (i : Fin R) (c : Fin k) :
    (Host.topK (s := ⟨2, ![R, n]⟩) ⟨2, ![R, k]⟩ 1 (FloatOps.cmpfTotal (F := Ideal) (φ := .f32) .gt) x h).1 (ix2 i c)
      = x (ix2 i (order (fun j => x (ix2 i j)) (c.castLE hk))) := by
  rw [← topK_places]
  exact (slice_cols _ hk h i c).trans (sort2_rows
    (fun l r : EReal × BitVec 32 => FloatOps.cmpfTotal (F := Ideal) (φ := .f32) .gt l.1 r.1) x
    (fun j => iotaInDim ⟨2, ![R, n]⟩ 32 1 j) i (c.castLE hk)).1

/-- The host's top-k indices at an index: the number of the place ordered there. -/
theorem topK_snd_apply (x : (⟨2, ![R, n]⟩ : Shape).Idx → EReal) (hk : k ≤ n)
    (h : (⟨2, ![R, n]⟩ : Shape).Slices (fun _ => 0) ⟨2, ![R, k]⟩) (i : Fin R) (c : Fin k) :
    (Host.topK (s := ⟨2, ![R, n]⟩) ⟨2, ![R, k]⟩ 1 (FloatOps.cmpfTotal (F := Ideal) (φ := .f32) .gt) x h).2 (ix2 i c)
      = BitVec.ofNat 32 (order (fun j => x (ix2 i j)) (c.castLE hk)).val := by
  rw [← topK_places]
  exact (slice_cols _ hk h i c).trans (sort2_rows
    (fun l r : EReal × BitVec 32 => FloatOps.cmpfTotal (F := Ideal) (φ := .f32) .gt l.1 r.1) x
    (fun j => iotaInDim ⟨2, ![R, n]⟩ 32 1 j) i (c.castLE hk)).2

end Neighbours

end
-- ==== Proof.RefValue.lean ====
/-
  What the reference computes at an index, read off its operations one at a time: the norms, the similarities, the softmax of
  a row, its five best places, the softmax of the values there, the sessions looked up at those places, and their weighted
  sum (`result_apply`).
-/
module

public import proofs.«01_k».proof.Proof.Gen.ReferenceIdeal.Read
public import proofs.«01_k».proof.Proof.Similarity
public import proofs.«01_k».proof.Proof.TopK
public import proofs.«01_k».proof.Proof.Reads

@[expose] public section

set_option maxRecDepth 16384

noncomputable section

namespace Cert.ReferenceIdeal.RowValue

open Cert.ReferenceIdeal Cert.ReferenceIdeal.Gen Cert.ReferenceIdeal.Read
open Idealize.ShloMosaic Idealize.ShloMosaic.ValueIdx Neighbours

variable (x : (⟨S16384x32, .f32⟩ : BufTy).Contents (Elt Ideal))

/-- The sessions: entry `d` of session `i`. -/
def sess (i : Fin 16384) (d : Fin 32) : EReal := x (ix2 i d)

/-- The reference's norm of a session. -/
theorem norm_apply (i : Fin 16384) : val_main_v6 (F := Ideal) x (ix1 i) = norm (sess x) i := by
  have e (d : Fin 32) : val_main_v4 (F := Ideal) x (idx_main_v5 (ix1 i) d) = sess x i d * sess x i d + eps := by
    rw [val_main_v4_apply, val_main_v2_apply, val_main_v3_apply, val_main_cst_apply,
      show idx_main_v5 (ix1 i) d = ix2 i d from funext fun a => by match a with | ⟨0, _⟩ => rfl | ⟨1, _⟩ => rfl]
    rfl
  rw [val_main_v6_apply, val_main_v5_apply, val_main_cst_0_apply]
  show Ideal.sqrt (Ideal.ofBits .f32 0x00000000#32 + _) = _
  rw [Ideal.ofBits_zero_f32, zero_add, Finset.sum_congr rfl fun d _ => e d]
  rfl

/-- The reference's similarity of two sessions. -/
theorem sim_apply (i j : Fin 16384) : val_main_v10 (F := Ideal) x (ix2 i j) = sim (sess x) i j := by
  have e1 : val_main_v1 (F := Ideal) x (ix2 i j) = ∑ d, sess x i d * sess x j d := by
    rw [val_main_v1_apply]
    refine Finset.sum_congr rfl fun d _ => ?_
    rw [val_main_v0_apply]
    exact congrArg₂ (· * ·) (congrArg x (funext fun a => by match a with | ⟨0, _⟩ => rfl | ⟨1, _⟩ => rfl))
      (congrArg x (funext fun a => by match a with | ⟨0, _⟩ => rfl | ⟨1, _⟩ => rfl))
  have e2 : val_main_v9 (F := Ideal) x (ix2 i j) = norm (sess x) i * norm (sess x) j := by
    rw [val_main_v9_apply, Fin.sum_univ_one, val_main_v8_apply, val_main_v7_apply, val_main_v7_apply, ← norm_apply, ← norm_apply]
    exact congrArg₂ (· * ·) (congrArg _ (funext fun a => by match a with | ⟨0, _⟩ => rfl))
      (congrArg _ (funext fun a => by match a with | ⟨0, _⟩ => rfl))
  rw [val_main_v10_apply, e1, e2]
  rfl

/-- The greatest similarity of a session, as the reference takes it (never below negative infinity). -/
theorem rowMax_at (i : Fin 16384) : val_main_v13 (F := Ideal) x (ix1 i) = Finset.univ.sup (sim (sess x) i) := by
  rw [val_main_v13_apply, val_main_v12_apply, val_main_cst_2_apply]
  show max (Ideal.ofBits .f32 0xFF800000#32) (val_main_v11 (F := Ideal) x (ix1 i)) = _
  rw [ofBits_neg_inf, max_eq_right bot_le]
  refine (hostRowMax_apply _ reducesTo_S16384x16384_S16384_d1 h_S_ (by decide) i).trans ?_
  exact congrArg _ (funext fun j => sim_apply x i j)

/-- The exponentials under the reference's first softmax. -/
theorem exp_apply (i j : Fin 16384) : val_main_v17 (F := Ideal) x (ix2 i j)
    = Ideal.exp (sim (sess x) i j - Finset.univ.sup (sim (sess x) i)) := by
  rw [val_main_v17_apply, val_main_v16_apply, sim_apply, val_main_v15_apply, val_main_v14_apply,
    show idx_main_v14 (idx_main_v15 (ix2 i j)) = ix1 i from funext fun a => by match a with | ⟨0, _⟩ => rfl, rowMax_at]
  rfl

/-- The reference's softmax of a row of similarities. -/
theorem softmax_apply (i j : Fin 16384) : val_main_v21 (F := Ideal) x (ix2 i j) = softmax (sim (sess x) i) j := by
  rw [val_main_v21_apply, exp_apply, val_main_v20_apply, val_main_v19_apply,
    show idx_main_v19 (idx_main_v20 (ix2 i j)) = ix1 i from funext fun a => by match a with | ⟨0, _⟩ => rfl,
    val_main_v18_apply, val_main_cst_3_apply]
  show Ideal.div _ (Ideal.ofBits .f32 0x00000000#32 + _) = _
  rw [Ideal.ofBits_zero_f32, zero_add]
  refine congrArg (Ideal.div _) (Finset.sum_congr rfl fun k _ => ?_)
  rw [show idx_main_v18 (ix1 i) k = ix2 i k from funext fun a => by match a with | ⟨0, _⟩ => rfl | ⟨1, _⟩ => rfl, exp_apply]

/-- The five best places of a session's softmax. -/
def places (i : Fin 16384) : Fin 5 → Fin 16384 := best (by norm_num) (softmax (sim (sess x) i))

/-- The values of the softmax at the five places. -/
def topValues (i : Fin 16384) (c : Fin 5) : EReal := softmax (sim (sess x) i) (places x i c)

/-- The reference's five best values of a row. -/
theorem values_apply (i : Fin 16384) (c : Fin 5) :
    val_main_values (F := Ideal) x (ix2 i c) = topValues x i c := by
  refine (topK_fst_apply (val_main_v21 (F := Ideal) x) (by norm_num) sliceFits_S16384x16384_S16384x5 i c).trans ?_
  rw [show (fun j => val_main_v21 (F := Ideal) x (ix2 i j)) = softmax (sim (sess x) i) from funext fun j => softmax_apply x i j]
  exact softmax_apply x i _

/-- The reference's five best places of a row, as words. -/
theorem indices_apply (i : Fin 16384) (c : Fin 5) :
    val_main_indices (F := Ideal) x (ix2 i c) = BitVec.ofNat 32 (places x i c).val := by
  refine (topK_snd_apply (val_main_v21 (F := Ideal) x) (by norm_num) sliceFits_S16384x16384_S16384x5 i c).trans ?_
  rw [show (fun j => val_main_v21 (F := Ideal) x (ix2 i j)) = softmax (sim (sess x) i) from funext fun j => softmax_apply x i j]
  rfl

/-- The greatest of the five values. -/
theorem topMax_at (i : Fin 16384) : val_main_v24 (F := Ideal) x (ix1 i) = Finset.univ.sup (topValues x i) := by
  rw [val_main_v24_apply, val_main_v23_apply, val_main_cst_5_apply]
  show max (Ideal.ofBits .f32 0xFF800000#32) (val_main_v22 (F := Ideal) x (ix1 i)) = _
  rw [ofBits_neg_inf, max_eq_right bot_le]
  refine (hostRowMax_apply _ reducesTo_S16384x5_S16384_d1 h_S_ (by decide) i).trans ?_
  exact congrArg _ (funext fun c => values_apply x i c)

/-- The exponentials under the reference's second softmax. -/
theorem topExp_apply (i : Fin 16384) (c : Fin 5) : val_main_v28 (F := Ideal) x (ix2 i c)
    = Ideal.exp (topValues x i c - Finset.univ.sup (topValues x i)) := by
  rw [val_main_v28_apply, val_main_v27_apply, values_apply, val_main_v26_apply, val_main_v25_apply,
    show idx_main_v25 (idx_main_v26 (ix2 i c)) = ix1 i from funext fun a => by match a with | ⟨0, _⟩ => rfl, topMax_at]
  simp only [Ideal.hostUnary_exp_def, Ideal.subf_def]

/-- The reference's weights: the softmax of the five values. -/
theorem weight_apply (i : Fin 16384) (c : Fin 5) : val_main_v32 (F := Ideal) x (ix2 i c) = softmax (topValues x i) c := by
  rw [val_main_v32_apply, topExp_apply, val_main_v31_apply, val_main_v30_apply,
    show idx_main_v30 (idx_main_v31 (ix2 i c)) = ix1 i from funext fun a => by match a with | ⟨0, _⟩ => rfl,
    val_main_v29_apply, val_main_cst_6_apply]
  show Ideal.div _ (Ideal.ofBits .f32 0x00000000#32 + _) = _
  rw [Ideal.ofBits_zero_f32, zero_add]
  refine congrArg (Ideal.div _) (Finset.sum_congr rfl fun k _ => ?_)
  rw [show idx_main_v29 (ix1 i) k = ix2 i k from funext fun a => by match a with | ⟨0, _⟩ => rfl | ⟨1, _⟩ => rfl, topExp_apply]

/-! ## The lookup of the five sessions -/

/-- A word numbering one of the sessions, read signed, is its number. -/
theorem toInt_place (q : Fin 16384) : (BitVec.ofNat 32 q.val).toInt = q.val := by
  have := q.isLt
  rw [BitVec.toInt_eq_toNat_of_lt (by rw [BitVec.toNat_ofNat]; omega), BitVec.toNat_ofNat]
  omega

/-- The row numbers the lookup reads: no place is negative, so the wrapped numbers are the places themselves. -/
theorem rowNumber_apply (i : Fin 16384) (c : Fin 5) :
    val_main_call0_v5 (F := Ideal) x (ix3 i c 0) = BitVec.ofNat 32 (places x i c).val := by
  rw [val_main_call0_v5_apply,
    show idx_main_call0_v5 (ix3 i c 0) = ix2 i c from funext fun a => by match a with | ⟨0, _⟩ => rfl | ⟨1, _⟩ => rfl,
    val_main_call0_v4_apply, val_main_call0_v1_apply, indices_apply, val_main_call0_v0_apply, val_main_call0_c_apply]
  have h : IntOp.cmpi .slt (BitVec.ofNat 32 (places x i c).val) 0#32 = 0#1 := by
    show BitVec.ofBool _ = _
    rw [show (BitVec.ofNat 32 (places x i c).val).slt 0#32 = false from ?_]
    · rfl
    · unfold BitVec.slt; rw [toInt_place]; exact decide_eq_false (by rw [BitVec.toInt_zero]; omega)
  rw [h]; rfl

/-- Every looked-up row number is inside the array. -/
theorem inside_apply (i : Fin 16384) (c : Fin 5) : val_main_call0_v11 (F := Ideal) x (ix3 i c 0) = 1#1 := by
  rw [val_main_call0_v11_apply, val_main_call0_v7_apply, val_main_call0_v10_apply, rowNumber_apply, val_main_call0_v6_apply,
    val_main_call0_c_2_apply, val_main_call0_v9_apply, val_main_call0_v8_apply, val_main_call0_c_1_apply]
  have h1 : IntOp.cmpi .sge (BitVec.ofNat 32 (places x i c).val) 0#32 = 1#1 := by
    show BitVec.ofBool _ = _
    rw [show (0#32).sle (BitVec.ofNat 32 (places x i c).val) = true from ?_]
    · rfl
    · unfold BitVec.sle; rw [toInt_place]; exact decide_eq_true (by rw [BitVec.toInt_zero]; omega)
  have h2 : IntOp.cmpi .sle (BitVec.ofNat 32 (places x i c).val) 16383#32 = 1#1 := by
    show BitVec.ofBool _ = _
    rw [show (BitVec.ofNat 32 (places x i c).val).sle 16383#32 = true from ?_]
    · rfl
    · have := (places x i c).isLt
      unfold BitVec.sle; rw [toInt_place]
      refine decide_eq_true ?_
      rw [show (16383#32).toInt = 16383 by decide]
      omega
  rw [h1, h2]; rfl

/-- So the mask of the lookup is set everywhere. -/
theorem mask_apply (i : Fin 16384) (c : Fin 5) : val_main_call0_v12 (F := Ideal) x (ix2 i c) = 1#1 := by
  have all (k : S16384x5x1.Idx) : val_main_call0_v11 (F := Ideal) x k = 1#1 := by
    have e : k = ix3 (k 0) (k 1) 0 := (eq_ix3 k).trans (congrArg (ix3 (k 0) (k 1)) (Subsingleton.elim (α := Fin 1) _ _))
    rw [e]
    exact inside_apply x _ _
  have fold (l : List S16384x5x1.Idx) :
      l.foldl (fun r k => IntOp.andi r (val_main_call0_v11 (F := Ideal) x k)) 1#1 = 1#1 := by
    induction l with
    | nil => rfl
    | cons k l ih => rw [List.foldl_cons, all]; exact ih
  exact (Host.reduce_eq_foldl _ _ _ reducesTo_S16384x5x1_S16384x5_d2 h_S_ (ix2 i c)).trans (fold _)

/-- The session looked up at a place. -/
theorem looked_apply (i : Fin 16384) (c : Fin 5) (d : Fin 32) :
    val_main_v33 (F := Ideal) x (ix3 i c d) = sess x (places x i c) d := by
  rw [val_main_v33_apply, val_main_call0_v14_apply,
    show idx_main_call0_v14 (ix3 i c d) = ix2 i c from funext fun a => by match a with | ⟨0, _⟩ => rfl | ⟨1, _⟩ => rfl,
    mask_apply, select_one]
  exact rows_apply gather_S16384x32_S16384x5x1_S16384x5x32_2_0_n_n_0_2_132_wf x _ i c d (places x i c)
    (by rw [rowNumber_apply, toInt_place])

/-- THE REFERENCE AT AN INDEX: the embeddings at the five best places of the softmax of the similarities, weighed by the
    softmax of its values there. -/
theorem result_apply (i : Fin 16384) (d : Fin 32) : val_main_v37 (F := Ideal) x (ix2 i d)
    = softOut (sim (sess x) i) (places x i) (fun j => sess x j d) := by
  rw [val_main_v37_apply, val_main_cst_7_apply]
  show Ideal.ofBits .f32 0x00000000#32 + _ = _
  rw [Ideal.ofBits_zero_f32, zero_add]
  refine Finset.sum_congr rfl fun c _ => ?_
  rw [show idx_main_v37 (ix2 i d) c = ix3 i c d from funext fun a => by match a with | ⟨0, _⟩ => rfl | ⟨1, _⟩ => rfl | ⟨2, _⟩ => rfl,
    val_main_v36_apply, looked_apply, val_main_v35_apply, val_main_v34_apply,
    show idx_main_v34 (idx_main_v35 (ix3 i c d)) = ix2 i c from funext fun a => by match a with | ⟨0, _⟩ => rfl | ⟨1, _⟩ => rfl,
    weight_apply]
  rfl

end Cert.ReferenceIdeal.RowValue

end
-- ==== Proof.Distinct.lean ====
/-
  The precondition, read as a statement about similarities: where it holds, each session's six greatest similarities
  decrease strictly (`six_decrease`).
-/
module

public import proofs.«01_k».proof.Pre_neighbours_distinct
public import proofs.«01_k».proof.Proof.RefValue

@[expose] public section

set_option maxRecDepth 16384

noncomputable section

namespace Neighbours

open Idealize.ShloMosaic Idealize.ShloMosaic.ValueIdx Cert.ReferenceIdeal.RowValue

/-- The side conditions of the precondition's operations hold. -/
instance distinctFacts : Cert.Pre_neighbours_distinct.Facts where
  transposes_S16384x32_S32x16384_1_0 := by decide
  bcast_S_S16384x32 := by decide
  reducesTo_S16384x32_S16384_d1 := by decide
  h_S_ := by decide
  bcast_S16384_S16384x1_0 := by decide
  transposes_S16384x1_S1x16384_1_0 := by decide
  sliceFits_S16384x16384_S16384x6 := by decide
  slices_S16384x6_S16384x5_0_0 := by decide
  slices_S16384x6_S16384x5_0_1 := by decide
  dot_S16384x32_S32x16384_S16384x16384_1_0_0_1_n_n_wf := by decide
  dot_S16384x1_S1x16384_S16384x16384_1_0_0_1_n_n_wf := by decide

/-- The six greatest similarities of every session, as the precondition takes them. -/
def sixBest (y : (⟨2, ![16384, 16384]⟩ : Shape).Idx → EReal) : (⟨2, ![16384, 6]⟩ : Shape).Idx → EReal :=
  (Host.topK (s := ⟨2, ![16384, 16384]⟩) ⟨2, ![16384, 6]⟩ 1 (FloatOps.cmpfTotal (F := Ideal) (φ := .f32) .gt) y
    distinctFacts.sliceFits_S16384x16384_S16384x6).1

/-- The precondition compares the first five of the six greatest similarities of a session with the last five. -/
theorem distinct_eq (x : FVec Ideal Cert.Pre_neighbours_distinct.S16384x32 .f32) :
    Cert.Pre_neighbours_distinct.fn (F := Ideal) x
      = cmpf .ogt
        (extractStridedSlice ⟨2, ![16384, 5]⟩ ![0, 0] (sixBest (Cert.ReferenceIdeal.Read.val_main_v10 (F := Ideal) x))
          distinctFacts.slices_S16384x6_S16384x5_0_0 : FVec Ideal ⟨2, ![16384, 5]⟩ .f32)
        (extractStridedSlice ⟨2, ![16384, 5]⟩ ![0, 1] (sixBest (Cert.ReferenceIdeal.Read.val_main_v10 (F := Ideal) x))
          distinctFacts.slices_S16384x6_S16384x5_0_1) := rfl

/-- WHERE THE PRECONDITION HOLDS, the six greatest similarities of every session decrease strictly. -/
theorem six_decrease (x : FVec Ideal Cert.Pre_neighbours_distinct.S16384x32 .f32)
    (h : Cert.Pre_neighbours_distinct.fn (F := Ideal) x = fun _ => 1#1) (i : Fin 16384) (k : Fin 5) :
    sim (sess x) i (order (sim (sess x) i) (k.succ.castLE (by norm_num)))
      < sim (sess x) i (order (sim (sess x) i) (k.castSucc.castLE (by norm_num))) := by
  have six (c : Fin 6) : sixBest (Cert.ReferenceIdeal.Read.val_main_v10 (F := Ideal) x) (ix2 i c)
      = sim (sess x) i (order (sim (sess x) i) (c.castLE (by norm_num))) := by
    refine (topK_fst_apply (Cert.ReferenceIdeal.Read.val_main_v10 (F := Ideal) x) (by norm_num)
      distinctFacts.sliceFits_S16384x16384_S16384x6 i c).trans ?_
    rw [show (fun j => Cert.ReferenceIdeal.Read.val_main_v10 (F := Ideal) x (ix2 i j)) = sim (sess x) i from
      funext fun j => sim_apply x i j]
    exact sim_apply x i _
  have hk := congrFun h (ix2 i k)
  rw [distinct_eq, cmpf_apply,
    extractStridedSlice_apply _ _ _ (ix2 i k) (ix2 i k.castSucc) (fun a => by match a with | ⟨0, _⟩ => exact (Nat.zero_add _).symm | ⟨1, _⟩ => exact (Nat.zero_add _).symm),
    extractStridedSlice_apply _ _ _ (ix2 i k) (ix2 i k.succ) (fun a => by match a with | ⟨0, _⟩ => exact (Nat.zero_add _).symm | ⟨1, _⟩ => exact Nat.add_comm _ _),
    six, six] at hk
  by_contra hn
  refine absurd hk ?_
  show BitVec.ofBool (decide _) ≠ _
  rw [decide_eq_false hn]
  decide

end Neighbours

end
-- ==== Proof.Equation.lean ====
/-
  The equation. Where the six greatest similarities of every session decrease strictly, what the kernel computes of a row of
  similarities, from its five successive maxima, is what the reference computes by sorting (`row_eq`); so the two result
  arrays agree index by index (`result_eq`).
-/
module

public import proofs.«01_k».proof.Proof.KernelValue
public import proofs.«01_k».proof.Proof.Distinct

@[expose] public section

set_option maxRecDepth 16384

noncomputable section

namespace Neighbours

open Idealize.ShloMosaic Idealize.ShloMosaic.ValueIdx

/-- THE EQUATION OF A ROW: where the six greatest similarities of session `i` decrease strictly, the kernel's value of its
    row is the sessions' entries at the five best places of the softmax, weighed by the softmax of its values there. -/
theorem row_eq {n D : ℕ} (X : Fin n → Fin D → EReal) (hD : 0 < D) (hn : 6 ≤ n) (i : Fin n)
    (h : ∀ k : Fin 5, sim X i (order (sim X i) (k.succ.castLE hn)) < sim X i (order (sim X i) (k.castSucc.castLE hn)))
    (E : Fin n → EReal) :
    blockOut (sim X i) E = softOut (sim X i) (best (by omega) (softmax (sim X i))) E := by
  obtain ⟨r, hr⟩ := sim_real X hD i _ _ (h 0).ne
  have hs : sim X i = fun j => (r j : EReal) := funext hr
  have ranked : Ranked r (best (by omega) (sim X i)) := ranked_best hn (sim X i) r hs h
  have same : order (softmax (sim X i)) = order (sim X i) := by
    rw [hs] at ranked ⊢
    exact order_congr _ _ fun a b => softmax_lt ranked a b
  have e : best (by omega) (softmax (sim X i)) = best (by omega) (sim X i) := by
    unfold best
    rw [same]
  rw [e]
  rw [hs] at ranked ⊢
  exact blockOut_eq_softOut ranked E

/-- THE RESULTS AGREE: where the precondition holds of the sessions, the kernel's result array is the reference's. -/
theorem result_eq (m : (ℓ : Loc Cert.KernelIdeal.nD Cert.KernelIdeal.τ Cert.KernelIdeal.sig) → Buf (Elt Ideal) ℓ)
    (c : Dev Cert.KernelIdeal.nD)
    (h : Cert.Pre_neighbours_distinct.fn (F := Ideal) (Cert.KernelIdeal.RowValue.arg m c) = fun _ => 1#1) :
    Cert.KernelIdeal.RowValue.result m c
      = Cert.ReferenceIdeal.Read.val_main_v37 (F := Ideal) (Cert.KernelIdeal.RowValue.arg m c) := by
  funext (i : (⟨2, ![16384, 32]⟩ : Shape).Idx)
  rw [eq_ix2 i]
  refine Eq.trans ?_ (Cert.ReferenceIdeal.RowValue.result_apply (Cert.KernelIdeal.RowValue.arg m c) (i 0) (i 1)).symm
  exact row_eq (Cert.ReferenceIdeal.RowValue.sess (Cert.KernelIdeal.RowValue.arg m c)) (by norm_num) (by norm_num) (i 0)
    (six_decrease (Cert.KernelIdeal.RowValue.arg m c) h (i 0)) (fun j => Cert.ReferenceIdeal.RowValue.sess (Cert.KernelIdeal.RowValue.arg m c) j (i 1))

end Neighbours

end
-- ==== Proof.lean ====
/-
  The claims, assembled (hand-written, untrusted). The runs are the generated ones; the values are those of
  `Proof/KernelValue.lean` and `Proof/RefValue.lean`, and their equality is `Proof/Equation.lean`'s `result_eq`.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import Idealize.ShloMosaic.Adequacy
public import Idealize.ShloMosaic.Init
public import Idealize.ShloMosaic.Lib.Quiescent
public import proofs.«01_k».proof.Proof.Equation

@[expose] public section

noncomputable section

namespace Cert.Proof

open Idealize.ShloMosaic Idealize.SL.Sem

/-- The kernel runs at the machine's words, leaves its argument as it was and every counter at zero. -/
theorem frame_kernel : Cert.quiescent_Kernel := fun m ρ _ => Cert.Kernel.Gen.frame m ρ

/-- The kernel runs at the exact reals, leaves its argument as it was and every counter at zero. -/
theorem frame_ideal : Cert.quiescent_KernelIdeal := fun m ρ _ => Cert.KernelIdeal.Gen.frame m ρ

/-- The same where the precondition holds. -/
theorem frame_ideal_distinct : Cert.quiescent_KernelIdeal_pre_neighbours_distinct := fun m ρ _ => Cert.KernelIdeal.Gen.frame m ρ

/-- The reference runs at the exact reals, leaves its argument as it was; it declares no counter. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The same where the precondition holds. -/
theorem frame_reference_distinct : Cert.quiescent_ReferenceIdeal_pre_neighbours_distinct := fun m ρ _ =>
  frame_reference m ρ trivial

/-- Read at the exact reals, the kernel is the same program. -/
theorem preserves : Cert.preserves_Kernel_KernelIdeal := trivial

/-- AT THE EXACT REALS THE KERNEL COMPUTES THE REFERENCE: from memories that agree on the sessions, where the precondition
    holds of them, both runs end with the same result array and leave the sessions as they were. -/
theorem algebraic : Cert.algebraic_KernelIdeal_ReferenceIdeal_pre_neighbours_distinct := by
  intro m ρ m' ρ' hpre hagree
  refine ⟨fun c => Cert.KernelIdeal.RowValue.result m c, Cert.KernelIdeal.RowValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v37_eq, hagree c]
  exact (Neighbours.result_eq m c (hpre c)).symm

/-- Every claim of the certificate. -/
theorem claim : Cert.Claim :=
  ⟨Cert.Kernel.Gen.facts, Cert.KernelIdeal.Gen.facts, Cert.ReferenceIdeal.Gen.facts, Neighbours.distinctFacts,
    frame_kernel, frame_ideal, frame_ideal_distinct, frame_reference, frame_reference_distinct, preserves, algebraic⟩

end Cert.Proof

end
